-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S896x224 : Shape := ⟨2, ![896, 224]⟩
abbrev S224x28672 : Shape := ⟨2, ![224, 28672]⟩
abbrev S56x28672 : Shape := ⟨2, ![56, 28672]⟩
abbrev S28672 : Shape := ⟨1, ![28672]⟩
abbrev S28672x224 : Shape := ⟨2, ![28672, 224]⟩
abbrev S224x896 : Shape := ⟨2, ![224, 896]⟩
abbrev S1x28672 : Shape := ⟨2, ![1, 28672]⟩
abbrev S224x512 : Shape := ⟨2, ![224, 512]⟩
abbrev S56x512 : Shape := ⟨2, ![56, 512]⟩
abbrev S1x512 : Shape := ⟨2, ![1, 512]⟩
abbrev S672x896 : Shape := ⟨2, ![672, 896]⟩
abbrev S896x512 : Shape := ⟨2, ![896, 512]⟩
abbrev S672x512 : Shape := ⟨2, ![672, 512]⟩
abbrev S512 : Shape := ⟨1, ![512]⟩

abbrev nBuf : Space → Nat
  | .hbm => 16
  | .vmem => 22
  | .smem => 0
  | _ => 0

abbrev bufTy : (tb : Table) → Fin (tcTables nBuf tb) → BufTy
  | .hbm, ⟨0, _⟩ => ⟨S896x224, .f32⟩
  | .hbm, ⟨1, _⟩ => ⟨S224x28672, .i32⟩
  | .hbm, ⟨2, _⟩ => ⟨S56x28672, .i32⟩
  | .hbm, ⟨3, _⟩ => ⟨S28672, .f32⟩
  | .hbm, ⟨4, _⟩ => ⟨S28672, .f32⟩
  | .hbm, ⟨5, _⟩ => ⟨S28672, .f32⟩
  | .hbm, ⟨6, _⟩ => ⟨S28672x224, .i32⟩
  | .hbm, ⟨7, _⟩ => ⟨S224x896, .f32⟩
  | .hbm, ⟨8, _⟩ => ⟨S224x28672, .i32⟩
  | .hbm, ⟨9, _⟩ => ⟨S1x28672, .f32⟩
  | .hbm, ⟨10, _⟩ => ⟨S1x28672, .f32⟩
  | .hbm, ⟨11, _⟩ => ⟨S1x28672, .f32⟩
  | .hbm, ⟨12, _⟩ => ⟨S224x28672, .i8⟩
  | .hbm, ⟨13, _⟩ => ⟨S1x28672, .f32⟩
  | .hbm, ⟨14, _⟩ => ⟨S1x28672, .f32⟩
  | .hbm, ⟨15, _⟩ => ⟨S1x28672, .f32⟩
  | .local _ .vmem, ⟨0, _⟩ => ⟨S224x896, .f32⟩
  | .local _ .vmem, ⟨1, _⟩ => ⟨S224x512, .i32⟩
  | .local _ .vmem, ⟨2, _⟩ => ⟨S224x512, .i32⟩
  | .local _ .vmem, ⟨3, _⟩ => ⟨S56x512, .i32⟩
  | .local _ .vmem, ⟨4, _⟩ => ⟨S56x512, .i32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S224x512, .i32⟩
  | .local _ .vmem, ⟨12, _⟩ => ⟨S224x512, .i32⟩
  | .local _ .vmem, ⟨13, _⟩ => ⟨S224x512, .i8⟩
  | .local _ .vmem, ⟨14, _⟩ => ⟨S224x512, .i8⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S672x896, .bf16⟩
  | _, _ => ⟨S896x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S224x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S224x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S896x224 : Shape := ⟨2, ![896, 224]⟩
abbrev S224x28672 : Shape := ⟨2, ![224, 28672]⟩
abbrev S56x28672 : Shape := ⟨2, ![56, 28672]⟩
abbrev S28672 : Shape := ⟨1, ![28672]⟩
abbrev S28672x224 : Shape := ⟨2, ![28672, 224]⟩
abbrev S4 : Shape := ⟨1, ![4]⟩
abbrev S1x4x1 : Shape := ⟨3, ![1, 4, 1]⟩
abbrev S_ : Shape := ⟨0, ![]⟩
abbrev S224x1x28672 : Shape := ⟨3, ![224, 1, 28672]⟩
abbrev S224x4x28672 : Shape := ⟨3, ![224, 4, 28672]⟩
abbrev S896x28672 : Shape := ⟨2, ![896, 28672]⟩
abbrev S56x1x28672 : Shape := ⟨3, ![56, 1, 28672]⟩
abbrev S56x4x28672 : Shape := ⟨3, ![56, 4, 28672]⟩
abbrev S28672x896 : Shape := ⟨2, ![28672, 896]⟩
abbrev S28672x1 : Shape := ⟨2, ![28672, 1]⟩
abbrev S1x28672 : Shape := ⟨2, ![1, 28672]⟩

abbrev nBuf : Space → Nat
  | .hbm => 109
  | .vmem => 0
  | .smem => 0
  | _ => 0

abbrev bufTy : (tb : Table) → Fin (tcTables nBuf tb) → BufTy
  | .hbm, ⟨0, _⟩ => ⟨S896x224, .f32⟩
  | .hbm, ⟨1, _⟩ => ⟨S224x28672, .i32⟩
  | .hbm, ⟨2, _⟩ => ⟨S56x28672, .i32⟩
  | .hbm, ⟨3, _⟩ => ⟨S28672, .f32⟩
  | .hbm, ⟨4, _⟩ => ⟨S28672, .f32⟩
  | .hbm, ⟨5, _⟩ => ⟨S28672, .f32⟩
  | .hbm, ⟨6, _⟩ => ⟨S28672x224, .i32⟩
  | .hbm, ⟨7, _⟩ => ⟨S4, .i32⟩
  | .hbm, ⟨8, _⟩ => ⟨S1x4x1, .i32⟩
  | .hbm, ⟨9, _⟩ => ⟨S_, .i32⟩
  | .hbm, ⟨10, _⟩ => ⟨S1x4x1, .i32⟩
  | .hbm, ⟨11, _⟩ => ⟨S1x4x1, .i32⟩
  | .hbm, ⟨12, _⟩ => ⟨S224x1x28672, .i32⟩
  | .hbm, ⟨13, _⟩ => ⟨S224x4x28672, .i32⟩
  | .hbm, ⟨14, _⟩ => ⟨S224x4x28672, .i32⟩
  | .hbm, ⟨15, _⟩ => ⟨S224x4x28672, .i32⟩
  | .hbm, ⟨16, _⟩ => ⟨S_, .i32⟩
  | .hbm, ⟨17, _⟩ => ⟨S224x4x28672, .i32⟩
  | .hbm, ⟨18, _⟩ => ⟨S224x4x28672, .i32⟩
  | .hbm, ⟨19, _⟩ => ⟨S896x28672, .i32⟩
  | .hbm, ⟨20, _⟩ => ⟨S4, .i32⟩
  | .hbm, ⟨21, _⟩ => ⟨S1x4x1, .i32⟩
  | .hbm, ⟨22, _⟩ => ⟨S_, .i32⟩
  | .hbm, ⟨23, _⟩ => ⟨S1x4x1, .i32⟩
  | .hbm, ⟨24, _⟩ => ⟨S1x4x1, .i32⟩
  | .hbm, ⟨25, _⟩ => ⟨S56x1x28672, .i32⟩
  | .hbm, ⟨26, _⟩ => ⟨S56x4x28672, .i32⟩
  | .hbm, ⟨27, _⟩ => ⟨S56x4x28672, .i32⟩
  | .hbm, ⟨28, _⟩ => ⟨S56x4x28672, .i32⟩
  | .hbm, ⟨29, _⟩ => ⟨S_, .i32⟩
  | .hbm, ⟨30, _⟩ => ⟨S56x4x28672, .i32⟩
  | .hbm, ⟨31, _⟩ => ⟨S56x4x28672, .i32⟩
  | .hbm, ⟨32, _⟩ => ⟨S224x28672, .i32⟩
  | .hbm, ⟨33, _⟩ => ⟨S28672x224, .i32⟩
  | .hbm, ⟨34, _⟩ => ⟨S28672x896, .i32⟩
  | .hbm, ⟨35, _⟩ => ⟨S28672x896, .f32⟩
  | .hbm, ⟨36, _⟩ => ⟨S28672x224, .f32⟩
  | .hbm, ⟨37, _⟩ => ⟨S28672x224, .f32⟩
  | .hbm, ⟨38, _⟩ => ⟨S28672x1, .f32⟩
  | .hbm, ⟨39, _⟩ => ⟨S28672x224, .f32⟩
  | .hbm, ⟨40, _⟩ => ⟨S28672x224, .f32⟩
  | .hbm, ⟨41, _⟩ => ⟨S28672x1, .f32⟩
  | .hbm, ⟨42, _⟩ => ⟨S28672x224, .f32⟩
  | .hbm, ⟨43, _⟩ => ⟨S28672x224, .f32⟩
  | .hbm, ⟨44, _⟩ => ⟨S_, .f32⟩
  | .hbm, ⟨45, _⟩ => ⟨S28672x224, .f32⟩
  | .hbm, ⟨46, _⟩ => ⟨S28672x224, .f32⟩
  | .hbm, ⟨47, _⟩ => ⟨S28672x224, .f32⟩
  | .hbm, ⟨48, _⟩ => ⟨S28672x224, .f32⟩
  | .hbm, ⟨49, _⟩ => ⟨S_, .f32⟩
  | .hbm, ⟨50, _⟩ => ⟨S28672, .f32⟩
  | .hbm, ⟨51, _⟩ => ⟨S_, .f32⟩
  | .hbm, ⟨52, _⟩ => ⟨S28672, .f32⟩
  | .hbm, ⟨53, _⟩ => ⟨S28672, .f32⟩
  | .hbm, ⟨54, _⟩ => ⟨S28672, .f32⟩
  | .hbm, ⟨55, _⟩ => ⟨S28672, .f32⟩
  | .hbm, ⟨56, _⟩ => ⟨S_, .f32⟩
  | .hbm, ⟨57, _⟩ => ⟨S28672, .f32⟩
  | .hbm, ⟨58, _⟩ => ⟨S28672, .f32⟩
  | .hbm, ⟨59, _⟩ => ⟨S_, .f32⟩
  | .hbm, ⟨60, _⟩ => ⟨S28672, .f32⟩
  | .hbm, ⟨61, _⟩ => ⟨S28672, .f32⟩
  | .hbm, ⟨62, _⟩ => ⟨S28672x1, .f32⟩
  | .hbm, ⟨63, _⟩ => ⟨S28672x224, .f32⟩
  | .hbm, ⟨64, _⟩ => ⟨S28672x224, .f32⟩
  | .hbm, ⟨65, _⟩ => ⟨S28672x224, .f32⟩
  | .hbm, ⟨66, _⟩ => ⟨S_, .f32⟩
  | .hbm, ⟨67, _⟩ => ⟨S28672, .f32⟩
  | .hbm, ⟨68, _⟩ => ⟨S_, .f32⟩
  | .hbm, ⟨69, _⟩ => ⟨S28672, .f32⟩
  | .hbm, ⟨70, _⟩ => ⟨S28672, .f32⟩
  | .hbm, ⟨71, _⟩ => ⟨S_, .f32⟩
  | .hbm, ⟨72, _⟩ => ⟨S28672, .f32⟩
  | .hbm, ⟨73, _⟩ => ⟨S28672, .f32⟩
  | .hbm, ⟨74, _⟩ => ⟨S_, .f32⟩
  | .hbm, ⟨75, _⟩ => ⟨S28672, .f32⟩
  | .hbm, ⟨76, _⟩ => ⟨S28672, .f32⟩
  | .hbm, ⟨77, _⟩ => ⟨S_, .f32⟩
  | .hbm, ⟨78, _⟩ => ⟨S28672, .f32⟩
  | .hbm, ⟨79, _⟩ => ⟨S28672, .f32⟩
  | .hbm, ⟨80, _⟩ => ⟨S28672x1, .f32⟩
  | .hbm, ⟨81, _⟩ => ⟨S28672x224, .f32⟩
  | .hbm, ⟨82, _⟩ => ⟨S28672x224, .f32⟩
  | .hbm, ⟨83, _⟩ => ⟨S28672x1, .f32⟩
  | .hbm, ⟨84, _⟩ => ⟨S28672x224, .f32⟩
  | .hbm, ⟨85, _⟩ => ⟨S28672x224, .f32⟩
  | .hbm, ⟨86, _⟩ => ⟨S_, .i32⟩
  | .hbm, ⟨87, _⟩ => ⟨S28672x224, .i32⟩
  | .hbm, ⟨88, _⟩ => ⟨S28672x224, .i32⟩
  | .hbm, ⟨89, _⟩ => ⟨S28672x224, .f32⟩
  | .hbm, ⟨90, _⟩ => ⟨S_, .f32⟩
  | .hbm, ⟨91, _⟩ => ⟨S28672x224, .f32⟩
  | .hbm, ⟨92, _⟩ => ⟨S28672x224, .f32⟩
  | .hbm, ⟨93, _⟩ => ⟨S28672x224, .f32⟩
  | .hbm, ⟨94, _⟩ => ⟨S28672x224, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S28672x224, .f32⟩
  | .hbm, ⟨99, _⟩ => ⟨S28672x224, .f32⟩
  | .hbm, ⟨100, _⟩ => ⟨S_, .f32⟩
  | .hbm, ⟨101, _⟩ => ⟨S28672x224, .f32⟩
  | .hbm, ⟨102, _⟩ => ⟨S28672x224, .f32⟩
  | .hbm, ⟨103, _⟩ => ⟨S28672x224, .i32⟩
  | .hbm, ⟨104, _⟩ => ⟨S28672x224, .i8⟩
  | .hbm, ⟨105, _⟩ => ⟨S224x28672, .i8⟩
  | .hbm, ⟨106, _⟩ => ⟨S1x28672, .f32⟩
  | .hbm, ⟨107, _⟩ => ⟨S1x28672, .f32⟩
  | .hbm, ⟨108, _⟩ => ⟨S1x28672, .f32⟩
  | _, _ => ⟨S896x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_cst_15 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.Block.lean ====
module

public import proofs.«01_k».proof.Proof.Gen.KernelIdeal.Value

@[expose] public section

/-! # What one grid point of the kernel leaves in its blocks

The kernel's first point fills a scratch array with the three parts of the transposed gradient, one below the other; no
later point touches it. Every point then computes its four output blocks from its own blocks of the arguments and from
that scratch. This file reads those contents off the kernel's run as plain functions of the blocks:
`partsOf` (the scratch), `codesOf`, `scaleOf`, `biasOf`, `stateOf` (the outputs), and states what the whole sweep leaves
at each point (`outs_eq`). -/

noncomputable section

open Idealize.ShloMosaic Idealize.ShloMosaic.TcCoe Idealize.SL.Sem

namespace Cert.KernelIdeal.Block

open Cert.KernelIdeal Cert.KernelIdeal.Gen

variable {F : FTy → Type} [FloatOps F]

theorem hz : (![0, 0] : Fin 2 → Nat) = fun _ => 0 := funext fun a => by fin_cases a <;> rfl

/-- The three pieces the first point stores into the scratch, last stored first. -/
def partPieces (x0 : Vec F S224x896 .f32) : List (View.Piece (Elt F) S672x896 .bf16) :=
  [⟨Rect.unit (s := S672x896) ![448, 0] S224x896.size inb_S672x896_S224x896_448_0, k0_pay7 x0⟩,
   ⟨Rect.unit (s := S672x896) ![224, 0] S224x896.size inb_S672x896_S224x896_224_0, k0_pay6 x0⟩,
   ⟨Rect.unit (s := S672x896) ![0, 0] S224x896.size inb_S672x896_S224x896_0_0, k0_pay3 x0⟩]

/-- The scratch after the first point: the three parts of the gradient block `x0`. -/
def partsOf (x0 : Vec F S224x896 .f32) : Vec F S672x896 .bf16 := View.canon (partPieces x0)

/-- The new momentum block, from the scratch `s` and the blocks of the arguments. -/
def stateOf (s : Vec F S672x896 .bf16) (x1 : Vec F S224x512 .i32) (x2 : Vec F S56x512 .i32) (x3 x4 x5 : Vec F S1x512 .f32) :
    Vec F S1x512 .f32 := k0_pay10 x1 s x2 x3 x4 x5

/-- The new bias block. -/
def biasOf (s : Vec F S672x896 .bf16) (x1 : Vec F S224x512 .i32) (x2 : Vec F S56x512 .i32) (x3 x4 x5 : Vec F S1x512 .f32) :
    Vec F S1x512 .f32 :=
  k0_pay13 (k0_pay8 x2 x3 x4) (k0_pay9 x1 s x2 x3 x4) (k0_pay11 x1 s x2 x3 x4 x5) (Scalar.ofBits .f32 0x322BCC77#32)

/-- The new scale block. -/
def scaleOf (s : Vec F S672x896 .bf16) (x1 : Vec F S224x512 .i32) (x2 : Vec F S56x512 .i32) (x3 x4 x5 : Vec F S1x512 .f32) :
    Vec F S1x512 .f32 :=
  k0_pay16 (k0_pay8 x2 x3 x4) (k0_pay9 x1 s x2 x3 x4) (k0_pay11 x1 s x2 x3 x4 x5) (Scalar.ofBits .f32 0x322BCC77#32)

/-- The new code block. -/
def codesOf (s : Vec F S672x896 .bf16) (x1 : Vec F S224x512 .i32) (x2 : Vec F S56x512 .i32) (x3 x4 x5 : Vec F S1x512 .f32)
    (x6 : Vec F S224x512 .i32) : Vec F S224x512 .i8 :=
  k0_pay15 (k0_pay8 x2 x3 x4) (k0_pay9 x1 s x2 x3 x4) (k0_pay11 x1 s x2 x3 x4 x5) (Scalar.ofBits .f32 0x322BCC77#32) x6

theorem out_B_7 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : ¬cond0_0 i)
    (x0 : Vec F S224x896 .f32) (x1 : Vec F S224x512 .i32) (x2 : Vec F S56x512 .i32) (x3 x4 x5 : Vec F S1x512 .f32) (x6 : Vec F S224x512 .i32) (xs0 : Vec F S672x896 .bf16) :
    out0_B_7 c i a1 h1 a2 h2 a3 h3 a4 h4 a5 h5 a6 h6 a7 h7 a8 h8 a9 h9 a10 h10 a11 h11 a12 h12 hc x0 x1 x2 x3 x4 x5 x6 xs0 = codesOf xs0 x1 x2 x3 x4 x5 x6 := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  sl_unfold_words
  rw [View.canon_unit_zero hz]
  simp only [View.readAt_eq_ld, h2.read_unread, h3.read_unread, h4.read_unread, h5.read_unread, h6.read_unread, h7.read_unread, h12.read_unread, View.ld_unit_zero (S := S224x512) hz, View.ld_unit_zero (S := S56x512) hz, View.ld_unit_zero (S := S1x512) hz, View.ld_unit_zero (S := S672x896) hz]
  rfl

theorem out_B_8 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : ¬cond0_0 i)
    (x0 : Vec F S224x896 .f32) (x1 : Vec F S224x512 .i32) (x2 : Vec F S56x512 .i32) (x3 x4 x5 : Vec F S1x512 .f32) (x6 : Vec F S224x512 .i32) (xs0 : Vec F S672x896 .bf16) :
    out0_B_8 c i a1 h1 a2 h2 a3 h3 a4 h4 a5 h5 a6 h6 a7 h7 a8 h8 a9 h9 a10 h10 a11 h11 a12 h12 hc x0 x1 x2 x3 x4 x5 x6 xs0 = scaleOf xs0 x1 x2 x3 x4 x5 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  sl_unfold_words
  rw [View.canon_unit_zero hz]
  simp only [View.readAt_eq_ld, h2.read_unread, h3.read_unread, h4.read_unread, h5.read_unread, h6.read_unread, h7.read_unread, h12.read_unread, View.ld_unit_zero (S := S224x512) hz, View.ld_unit_zero (S := S56x512) hz, View.ld_unit_zero (S := S1x512) hz, View.ld_unit_zero (S := S672x896) hz]
  rfl

theorem out_B_9 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : ¬cond0_0 i)
    (x0 : Vec F S224x896 .f32) (x1 : Vec F S224x512 .i32) (x2 : Vec F S56x512 .i32) (x3 x4 x5 : Vec F S1x512 .f32) (x6 : Vec F S224x512 .i32) (xs0 : Vec F S672x896 .bf16) :
    out0_B_9 c i a1 h1 a2 h2 a3 h3 a4 h4 a5 h5 a6 h6 a7 h7 a8 h8 a9 h9 a10 h10 a11 h11 a12 h12 hc x0 x1 x2 x3 x4 x5 x6 xs0 = biasOf xs0 x1 x2 x3 x4 x5 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  sl_unfold_words
  rw [View.canon_unit_zero hz]
  simp only [View.readAt_eq_ld, h2.read_unread, h3.read_unread, h4.read_unread, h5.read_unread, h6.read_unread, h7.read_unread, h12.read_unread, View.ld_unit_zero (S := S224x512) hz, View.ld_unit_zero (S := S56x512) hz, View.ld_unit_zero (S := S1x512) hz, View.ld_unit_zero (S := S672x896) hz]
  rfl

theorem out_B_10 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : ¬cond0_0 i)
    (x0 : Vec F S224x896 .f32) (x1 : Vec F S224x512 .i32) (x2 : Vec F S56x512 .i32) (x3 x4 x5 : Vec F S1x512 .f32) (x6 : Vec F S224x512 .i32) (xs0 : Vec F S672x896 .bf16) :
    out0_B_10 c i a1 h1 a2 h2 a3 h3 a4 h4 a5 h5 a6 h6 a7 h7 a8 h8 a9 h9 a10 h10 a11 h11 a12 h12 hc x0 x1 x2 x3 x4 x5 x6 xs0 = stateOf xs0 x1 x2 x3 x4 x5 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  sl_unfold_words
  rw [View.canon_unit_zero hz]
  simp only [View.readAt_eq_ld, h2.read_unread, h3.read_unread, h4.read_unread, h5.read_unread, h6.read_unread, h7.read_unread, h12.read_unread, View.ld_unit_zero (S := S224x512) hz, View.ld_unit_zero (S := S56x512) hz, View.ld_unit_zero (S := S1x512) hz, View.ld_unit_zero (S := S672x896) hz]
  rfl

theorem cover_parts (x0 : Vec F S224x896 .f32) (y : S672x896.Idx) : ∃ pc ∈ partPieces (F := F) x0, y ∈ pc.1.set :=
  View.cover_of_tiledL (partPieces x0) S224x896.size (by sl_kernel_rfl) y

/-- A load of the whole scratch after the three stores is the three parts. -/
theorem load_parts (v : View sig .tc .vmem S672x896 .bf16) (x0 : Vec F S224x896 .f32) :
    v.readCov (partPieces x0) (Rect.unit (s := S672x896) ![0, 0] S672x896.size inb_S672x896_S672x896_0_0).toLoadRect
      = partsOf x0 := by
  rw [View.readCov_eq_canon_ld _ _ _ (fun y => cover_parts x0 _), View.ld_unit_zero hz]
  rfl

theorem out_A_7 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : cond0_0 i)
    (x0 : Vec F S224x896 .f32) (x1 : Vec F S224x512 .i32) (x2 : Vec F S56x512 .i32) (x3 x4 x5 : Vec F S1x512 .f32) (x6 : Vec F S224x512 .i32) :
    out0_A_7 c i a1 h1 a2 h2 a3 h3 a4 h4 a5 h5 a6 h6 a7 h7 a8 h8 a9 h9 a10 h10 a11 h11 a12 h12 hc x0 x1 x2 x3 x4 x5 x6 = codesOf (partsOf x0) x1 x2 x3 x4 x5 x6 := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S224x512) hz, View.ld_unit_zero (S := S224x896) hz, View.ld_unit_zero (S := S56x512) hz, View.ld_unit_zero (S := S1x512) hz]
  exact congrArg (fun s => codesOf s x1 x2 x3 x4 x5 x6) (load_parts a12.view x0)

theorem out_A_8 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : cond0_0 i)
    (x0 : Vec F S224x896 .f32) (x1 : Vec F S224x512 .i32) (x2 : Vec F S56x512 .i32) (x3 x4 x5 : Vec F S1x512 .f32) (x6 : Vec F S224x512 .i32) :
    out0_A_8 c i a1 h1 a2 h2 a3 h3 a4 h4 a5 h5 a6 h6 a7 h7 a8 h8 a9 h9 a10 h10 a11 h11 a12 h12 hc x0 x1 x2 x3 x4 x5 x6 = scaleOf (partsOf x0) x1 x2 x3 x4 x5 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S224x512) hz, View.ld_unit_zero (S := S224x896) hz, View.ld_unit_zero (S := S56x512) hz, View.ld_unit_zero (S := S1x512) hz]
  exact congrArg (fun s => scaleOf s x1 x2 x3 x4 x5) (load_parts a12.view x0)

theorem out_A_9 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : cond0_0 i)
    (x0 : Vec F S224x896 .f32) (x1 : Vec F S224x512 .i32) (x2 : Vec F S56x512 .i32) (x3 x4 x5 : Vec F S1x512 .f32) (x6 : Vec F S224x512 .i32) :
    out0_A_9 c i a1 h1 a2 h2 a3 h3 a4 h4 a5 h5 a6 h6 a7 h7 a8 h8 a9 h9 a10 h10 a11 h11 a12 h12 hc x0 x1 x2 x3 x4 x5 x6 = biasOf (partsOf x0) x1 x2 x3 x4 x5 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S224x512) hz, View.ld_unit_zero (S := S224x896) hz, View.ld_unit_zero (S := S56x512) hz, View.ld_unit_zero (S := S1x512) hz]
  exact congrArg (fun s => biasOf s x1 x2 x3 x4 x5) (load_parts a12.view x0)

theorem out_A_10 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : cond0_0 i)
    (x0 : Vec F S224x896 .f32) (x1 : Vec F S224x512 .i32) (x2 : Vec F S56x512 .i32) (x3 x4 x5 : Vec F S1x512 .f32) (x6 : Vec F S224x512 .i32) :
    out0_A_10 c i a1 h1 a2 h2 a3 h3 a4 h4 a5 h5 a6 h6 a7 h7 a8 h8 a9 h9 a10 h10 a11 h11 a12 h12 hc x0 x1 x2 x3 x4 x5 x6 = stateOf (partsOf x0) x1 x2 x3 x4 x5 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S224x512) hz, View.ld_unit_zero (S := S224x896) hz, View.ld_unit_zero (S := S56x512) hz, View.ld_unit_zero (S := S1x512) hz]
  exact congrArg (fun s => stateOf s x1 x2 x3 x4 x5) (load_parts a12.view x0)

theorem sout_A_0 (c : Dev nD) (i : grid0.Coords) (a1 : Memref sig .tc .vmem S224x896 .f32) (h1 : a1.IsWhole) (a2 : Memref sig .tc .vmem S224x512 .i32) (h2 : a2.IsWhole) (a3 : Memref sig .tc .vmem S56x512 .i32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S224x512 .i32) (h7 : a7.IsWhole) (a8 : Memref sig .tc .vmem S224x512 .i8) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S672x896 .bf16) (h12 : a12.IsWhole) (hc : cond0_0 i)
    (x0 : Vec F S224x896 .f32) (x1 : Vec F S224x512 .i32) (x2 : Vec F S56x512 .i32) (x3 x4 x5 : Vec F S1x512 .f32) (x6 : Vec F S224x512 .i32) :
    sout0_A_0 c i a1 h1 a2 h2 a3 h3 a4 h4 a5 h5 a6 h6 a7 h7 a8 h8 a9 h9 a10 h10 a11 h11 a12 h12 hc x0 x1 x2 x3 x4 x5 x6 = partsOf x0 := by
  unfold sout0_A_0
  rw [View.read_writes_eq_canon _ _ _ (scover0_A_0 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  simp only [View.readAt_eq_ld, h1.read_unread, View.ld_unit_zero (S := S224x896) hz]
  rfl

end Cert.KernelIdeal.Block

end
-- ==== Proof.Sweep.lean ====
module

public import proofs.«01_k».proof.Proof.Block
public import Idealize.ShloMosaic.Lib.Pipeline.ValueKit.Point

@[expose] public section

/-! # What the kernel's result arrays hold, column by column of the table

Grid point `t` works on rows `512 · t … 512 · t + 511` of the table, which are columns of its arrays. The blocks it
reads are the arguments there (`blk0` … `blk6`), the scratch it reads is what the first point left (`outs_eq`), and so
every result array is the block function of the arguments' blocks at the point its index belongs to (`G7_at` …). -/

noncomputable section

open Idealize.ShloMosaic Idealize.ShloMosaic.TcCoe Idealize.SL.Sem

namespace Cert.KernelIdeal.Sweep

open Cert.KernelIdeal Cert.KernelIdeal.Gen Cert.KernelIdeal.Value Cert.KernelIdeal.Block

variable {F : FTy → Type} [FloatOps F]
variable (m : (ℓ : Loc nD τ sig) → Buf (Elt F) ℓ)

/-- The windows' index maps at every grid point. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] :=
  (by decide +kernel : ∀ t : Fin grid0.N, _)

/-- The table row that column `b` of point `t`'s blocks is. -/
def row (t : Fin cfg0.N) (b : Fin 512) : Fin 28672 := ⟨512 * t.val + b.val, by
  have h := lt_of_lt_of_eq t.isLt (show cfg0.N = 56 from N_0); omega⟩

theorem blk0 (c : Dev nD) (t : Fin cfg0.N) (a : Fin 224) (b : Fin 896) :
    iblk m c 0 t (ix2 a b) = m ((c : Thread nD τ).loc main_arg0) (ix2 b a) := by
  blk_ext! [iblk, V, idx t]

theorem blk1 (c : Dev nD) (t : Fin cfg0.N) (a : Fin 224) (b : Fin 512) :
    iblk m c 1 t (ix2 a b) = m ((c : Thread nD τ).loc main_arg1) (ix2 a (row t b)) := by
  unfold row
  blk_ext! [iblk, V, idx t]

theorem blk2 (c : Dev nD) (t : Fin cfg0.N) (a : Fin 56) (b : Fin 512) :
    iblk m c 2 t (ix2 a b) = m ((c : Thread nD τ).loc main_arg2) (ix2 a (row t b)) := by
  unfold row
  blk_ext! [iblk, V, idx t]

theorem blk3 (c : Dev nD) (t : Fin cfg0.N) (a : Fin 1) (b : Fin 512) :
    iblk m c 3 t (ix2 a b) = m ((c : Thread nD τ).loc main_arg3) (ix1 (row t b)) := by
  unfold row
  blk_ext! [iblk, V, idx t]

theorem blk4 (c : Dev nD) (t : Fin cfg0.N) (a : Fin 1) (b : Fin 512) :
    iblk m c 4 t (ix2 a b) = m ((c : Thread nD τ).loc main_arg4) (ix1 (row t b)) := by
  unfold row
  blk_ext! [iblk, V, idx t]

theorem blk5 (c : Dev nD) (t : Fin cfg0.N) (a : Fin 1) (b : Fin 512) :
    iblk m c 5 t (ix2 a b) = m ((c : Thread nD τ).loc main_arg5) (ix1 (row t b)) := by
  unfold row
  blk_ext! [iblk, V, idx t]

theorem blk6 (c : Dev nD) (t : Fin cfg0.N) (a : Fin 224) (b : Fin 512) :
    iblk m c 6 t (ix2 a b) = m ((c : Thread nD τ).loc main_arg6) (ix2 (row t b) a) := by
  unfold row
  blk_ext! [iblk, V, idx t]

/-- The scratch every point reads. -/
def parts (c : Dev nD) : Vec F S672x896 .bf16 := partsOf (iblk m c 0 ⟨0, by rw [show cfg0.N = 56 from N_0]; decide⟩)

/-- What the four output blocks and the scratch hold after point `t`. -/
theorem outs_eq (c : Dev nD) : ∀ (n : ℕ) (h : n < cfg0.N), outsAt0 m c n h =
    (codesOf (parts m c) (iblk m c 1 ⟨n, h⟩) (iblk m c 2 ⟨n, h⟩) (iblk m c 3 ⟨n, h⟩) (iblk m c 4 ⟨n, h⟩) (iblk m c 5 ⟨n, h⟩) (iblk m c 6 ⟨n, h⟩),
     scaleOf (parts m c) (iblk m c 1 ⟨n, h⟩) (iblk m c 2 ⟨n, h⟩) (iblk m c 3 ⟨n, h⟩) (iblk m c 4 ⟨n, h⟩) (iblk m c 5 ⟨n, h⟩),
     biasOf (parts m c) (iblk m c 1 ⟨n, h⟩) (iblk m c 2 ⟨n, h⟩) (iblk m c 3 ⟨n, h⟩) (iblk m c 4 ⟨n, h⟩) (iblk m c 5 ⟨n, h⟩),
     stateOf (parts m c) (iblk m c 1 ⟨n, h⟩) (iblk m c 2 ⟨n, h⟩) (iblk m c 3 ⟨n, h⟩) (iblk m c 4 ⟨n, h⟩) (iblk m c 5 ⟨n, h⟩),
     parts m c)
  | 0, h => by
    rw [outsAt0_A m c ⟨0, h⟩ rfl, out_A_7, out_A_8, out_A_9, out_A_10, sout_A_0]
    rfl
  | n + 1, h => by
    have hN : cfg0.N = 56 := N_0
    have hB : ¬(⟨n + 1, h⟩ : Fin cfg0.N).val % 56 = 0 := by dsimp only; omega
    have ih := outs_eq c n (Nat.lt_of_succ_lt h)
    have hs : (outsAt0 m c n (Nat.lt_of_succ_lt h)).2.2.2.2 = parts m c := by rw [ih]
    rw [outsAt0_B m c ⟨n + 1, h⟩ hB, out_B_7, out_B_8, out_B_9, out_B_10]
    unfold sout0_B_0
    simp only [Nat.add_sub_cancel, hs]

end Cert.KernelIdeal.Sweep

end
-- ==== Proof.Row.lean ====
module

public import Idealize.ShloMosaic.Lib.Pointwise

@[expose] public section

/-! # One row of the table: the update over the extended reals

A row of the embedding table has 224 columns. Everything after the gradient is a function of that row alone: its
gradient `g`, its dequantised weights `w`, its momentum `rm` and its random offsets. This file states that function
(`decayed`, `momentum`, `stepped`, `low`, `high`, `code`) and proves the one fact that makes the claim free of
preconditions: two gradients that agree entry by entry, or that BOTH have an infinite entry, give the same momentum and
the same stepped weights (`Agree.momentum_eq`, `Agree.stepped_eq`). For an infinite gradient makes the sum of squares
infinite, the step size zero, and so leaves the weights where they were. -/

noncomputable section

open Idealize.ShloMosaic
open scoped BigOperators

namespace Cert.Row

/-- The gradient with weight decay, `g + 0.05 · w`. -/
def decayed (g w : Fin 224 → EReal) (d : Fin 224) : EReal := g d + Ideal.ofBits .f32 0x3D4CCCCD#32 * w d

/-- The new momentum: the old one plus the mean of the squares of the decayed gradient. -/
def momentum (rm : EReal) (g w : Fin 224 → EReal) : EReal :=
  rm + Ideal.div (∑ d, decayed g w d * decayed g w d) (Ideal.ofBits .f32 0x43600000#32)

/-- The stepped weights `w − lr / (√momentum + eps) · decayed`. -/
def stepped (rm : EReal) (g w : Fin 224 → EReal) (d : Fin 224) : EReal :=
  w d - Ideal.div (Ideal.ofBits .f32 0x3CA3D70A#32) (Ideal.sqrt (momentum rm g w) + Ideal.ofBits .f32 0x322BCC77#32)
    * decayed g w d

/-- The least entry of a row: the new bias. -/
def low (x : Fin 224 → EReal) : EReal := Finset.univ.fold min (Ideal.ofBits .f32 0x7F800000#32) x

/-- The range of a row, greatest less least entry. -/
def range (x : Fin 224 → EReal) : EReal := Finset.univ.fold max (Ideal.ofBits .f32 0xFF800000#32) x - low x

/-- The new scale, `range / 255`. -/
def scale (x : Fin 224 → EReal) : EReal := Ideal.div (range x) (Ideal.ofBits .f32 0x437F0000#32)

/-- The value a code is rounded from: `(x − low) · 255 / (range + eps)`. -/
def scaled (x : Fin 224 → EReal) (d : Fin 224) : EReal :=
  (x d - low x) * Ideal.div (Ideal.ofBits .f32 0x437F0000#32) (range x + Ideal.ofBits .f32 0x322BCC77#32)

/-- The random offset of one entry: the word's high 24 bits as a fraction. -/
def offset (r : BitVec 32) : EReal := (((r.toNat / 256 : ℕ) : ℝ) : EReal) * Ideal.ofBits .f32 0x33800000#32

/-- The code of one entry: stochastic rounding, clipped to `0 … 255`, as eight bits. -/
def code (x : Fin 224 → EReal) (r : BitVec 32) (d : Fin 224) : BitVec 8 :=
  (Ideal.fptosi 32 (min (Ideal.ofBits .f32 0x437F0000#32) (max 0 (Ideal.liftRound Int.floor (scaled x d + offset r))))).setWidth 8

/-- Byte `k` of a packed word, counted from the low end. -/
def byte (x : BitVec 32) (k : ℕ) : ℕ := x.toNat / 2 ^ (8 * k) % 256

/-- That byte as a number of the extended reals. -/
def byteVal (x : BitVec 32) (k : ℕ) : EReal := ((byte x k : ℝ) : EReal)

theorem byteVal_real (x : BitVec 32) (k : ℕ) : ∃ r : ℝ, 0 ≤ r ∧ byteVal x k = r := ⟨byte x k, Nat.cast_nonneg _, rfl⟩

/-! ## Infinite entries -/

/-- Neither infinity. -/
def Finite (x : EReal) : Prop := x ≠ ⊤ ∧ x ≠ ⊥

theorem infinite_add {x : EReal} (y : EReal) (h : ¬ Finite x) : ¬ Finite (x + y) := by
  induction x <;> induction y <;> simp_all [Finite]

theorem infinite_add' (x : EReal) {y : EReal} (h : ¬ Finite y) : ¬ Finite (x + y) := by
  rw [add_comm]; exact infinite_add x h

/-- A sum with an infinite term is infinite. -/
theorem infinite_sum {ι : Type} [DecidableEq ι] {s : Finset ι} {f : ι → EReal} {i : ι} (hi : i ∈ s) (h : ¬ Finite (f i)) :
    ¬ Finite (∑ j ∈ s, f j) := by
  rw [← Finset.add_sum_erase s f hi]; exact infinite_add _ h

theorem sq_nonneg' (x : EReal) : 0 ≤ x * x := by
  induction x with
  | bot => simp
  | top => simp
  | coe r => exact_mod_cast mul_self_nonneg r

theorem sq_infinite {x : EReal} (h : ¬ Finite x) : x * x = ⊤ := by
  induction x <;> simp_all [Finite]

/-- A sum of squares with an infinite entry is `⊤`. -/
theorem sum_sq_top {q : Fin 224 → EReal} {d : Fin 224} (h : ¬ Finite (q d)) : ∑ d, q d * q d = ⊤ := by
  rw [← Finset.add_sum_erase _ _ (Finset.mem_univ d), sq_infinite h]
  have h0 : (0 : EReal) ≤ ∑ x ∈ Finset.univ.erase d, q x * q x := Finset.sum_nonneg fun i _ => sq_nonneg' _
  exact EReal.top_add_of_ne_bot (ne_of_gt (lt_of_lt_of_le EReal.bot_lt_zero h0))

theorem n224 : Ideal.ofBits .f32 0x43600000#32 = ((224 : ℝ) : EReal) := by
  simp [Ideal.ofBits, Ideal.ieee]
  rw [← EReal.coe_mul]
  norm_num

/-- Two gradients of a row as far as the update can tell them apart: the same, or both with an infinite entry. -/
def Agree (g g' : Fin 224 → EReal) : Prop := g = g' ∨ ((∃ d, ¬ Finite (g d)) ∧ ∃ d, ¬ Finite (g' d))

theorem momentum_of_infinite (rm : EReal) {g : Fin 224 → EReal} (w : Fin 224 → EReal) (h : ∃ d, ¬ Finite (g d)) :
    momentum rm g w = rm + ⊤ := by
  obtain ⟨d, hd⟩ := h
  unfold momentum
  rw [sum_sq_top (q := decayed g w) (d := d) (infinite_add _ hd), n224]
  congr 1
  rw [Ideal.div, if_neg (by norm_num)]
  rw [← EReal.coe_inv]
  exact EReal.top_mul_coe_of_pos (by norm_num)

theorem stepped_of_infinite (rm : EReal) {g : Fin 224 → EReal} (w : Fin 224 → EReal) (h : ∃ d, ¬ Finite (g d)) :
    stepped rm g w = w := by
  funext d
  have hz : Ideal.div (Ideal.ofBits .f32 0x3CA3D70A#32) (Ideal.sqrt (momentum rm g w) + Ideal.ofBits .f32 0x322BCC77#32) = 0 := by
    have e : ∃ r : ℝ, Ideal.ofBits .f32 0x322BCC77#32 = (r : EReal) := ⟨_, by simp [Ideal.ofBits, Ideal.ieee]; rfl⟩
    obtain ⟨r, hr⟩ := e
    rw [momentum_of_infinite rm w h, hr]
    induction rm with
    | bot =>
      rw [EReal.bot_add, show Ideal.sqrt ⊥ = ⊥ from rfl, EReal.bot_add]; simp [Ideal.div]
    | top =>
      rw [EReal.top_add_top, show Ideal.sqrt ⊤ = ⊤ from rfl, EReal.top_add_coe]; simp [Ideal.div]
    | coe x =>
      rw [EReal.coe_add_top, show Ideal.sqrt ⊤ = ⊤ from rfl, EReal.top_add_coe]; simp [Ideal.div]
  unfold stepped
  rw [hz, zero_mul, sub_zero]

theorem Agree.momentum_eq {g g' : Fin 224 → EReal} (h : Agree g g') (rm : EReal) (w : Fin 224 → EReal) :
    momentum rm g w = momentum rm g' w := by
  rcases h with rfl | ⟨h, h'⟩
  · rfl
  · rw [momentum_of_infinite rm w h, momentum_of_infinite rm w h']

theorem Agree.stepped_eq {g g' : Fin 224 → EReal} (h : Agree g g') (rm : EReal) (w : Fin 224 → EReal) :
    stepped rm g w = stepped rm g' w := by
  rcases h with rfl | ⟨h, h'⟩
  · rfl
  · rw [stepped_of_infinite rm w h, stepped_of_infinite rm w h']

/-! ## The gradient from three parts -/

/-- The row gradient: the counts' weighted sum of the bags' gradients. -/
def grad (x : Fin 896 → Fin 224 → EReal) (c : Fin 896 → EReal) (d : Fin 224) : EReal := ∑ b, c b * x b d

/-- The row gradient the kernel forms: the sums over the gradient rounded to sixteen bits, over the remainder rounded,
and over the remainder's remainder, where rounding changes nothing. -/
def grad3 (x : Fin 896 → Fin 224 → EReal) (c : Fin 896 → EReal) (d : Fin 224) : EReal :=
  ∑ b, x b d * c b + (∑ b, (x b d - x b d) * c b + ∑ b, (x b d - x b d - (x b d - x b d)) * c b)

theorem grad3_eq_or (x : Fin 896 → Fin 224 → EReal) (c : Fin 896 → EReal) (hc : ∀ b, ∃ r : ℝ, 0 ≤ r ∧ c b = r) (d : Fin 224) :
    grad3 x c d = grad x c d ∨ (¬ Finite (grad3 x c d) ∧ ¬ Finite (grad x c d)) := by
  have hA : ∑ b, x b d * c b = grad x c d := Finset.sum_congr rfl fun b _ => mul_comm _ _
  unfold grad3
  rw [hA]
  by_cases h : ∀ b, Finite (x b d) ∨ c b = 0
  · left
    have hB : ∀ b, (x b d - x b d) * c b = 0 := fun b => by
      rcases h b with h | h
      · rw [EReal.sub_self h.1 h.2, zero_mul]
      · rw [h, mul_zero]
    have hC : ∀ b, (x b d - x b d - (x b d - x b d)) * c b = 0 := fun b => by
      rcases h b with h | h
      · rw [EReal.sub_self h.1 h.2, sub_zero, zero_mul]
      · rw [h, mul_zero]
    simp only [hB, hC, Finset.sum_const_zero, add_zero]
  · right
    push Not at h
    obtain ⟨b, hx, hcb⟩ := h
    obtain ⟨r, hr, e⟩ := hc b
    have hr' : 0 < r := lt_of_le_of_ne hr fun h0 => hcb (by rw [e, ← h0]; rfl)
    have hg : ¬ Finite (grad x c d) := infinite_sum (Finset.mem_univ b) <| by
      rw [e]
      have hx' : x b d = ⊤ ∨ x b d = ⊥ := by
        unfold Finite at hx; by_contra hh; push Not at hh; exact hx hh
      rcases hx' with hx' | hx' <;> rw [hx']
      · rw [EReal.coe_mul_top_of_pos hr']; simp [Finite]
      · rw [EReal.coe_mul_bot_of_pos hr']; simp [Finite]
    exact ⟨infinite_add _ hg, hg⟩

/-- So the kernel's gradient of a row and the plain one cannot be told apart by the update. -/
theorem agree_grad3 (x : Fin 896 → Fin 224 → EReal) (c : Fin 896 → EReal) (hc : ∀ b, ∃ r : ℝ, 0 ≤ r ∧ c b = r) :
    Agree (grad3 x c) (grad x c) := by
  by_cases h : ∀ d, grad3 x c d = grad x c d
  · exact .inl (funext h)
  · push Not at h
    obtain ⟨d, hd⟩ := h
    rcases grad3_eq_or x c hc d with h | ⟨h, h'⟩
    · exact absurd h hd
    · exact .inr ⟨⟨d, h⟩, ⟨d, h'⟩⟩

end Cert.Row

end
-- ==== Proof.Bytes.lean ====
module

public import proofs.«01_k».proof.Proof.Row
public import Idealize.ShloMosaic.Lib.BitcastFour

@[expose] public section

/-! # The bytes of a packed word, as both programs read them

The tables arrive packed four bytes to a 32-bit word: byte `k` of word row `a` is table row `4 · a + k`. The reference
shifts and masks (`host_byte`), the kernel bit-casts whole arrays of words to arrays of bytes (`bitcast_byte`); both are
`Row.byteVal`. The random offset is the same value read with or without a sign (`offset_signed`, `offset_unsigned`). -/

noncomputable section

open Idealize.ShloMosaic

namespace Cert.Row

theorem andi_255 (x : BitVec 32) : (IntOp.andi x 255#32).toNat = x.toNat % 256 := by
  unfold IntOp.andi
  rw [BitVec.toNat_and, show (255#32 : BitVec 32).toNat = 2 ^ 8 - 1 from rfl, Nat.and_two_pow_sub_one_eq_mod]

theorem toInt_small (x : BitVec 32) (h : x.toNat < 2 ^ 31) : x.toInt = (x.toNat : ℤ) :=
  BitVec.toInt_eq_toNat_of_lt (by omega)

theorem shrui_toNat (u : ArithUnit) (x y : BitVec 32) (h : y.toNat < 32) :
    (IntOp.shrui u x y).toNat = x.toNat / 2 ^ y.toNat := by
  unfold IntOp.shrui
  rw [if_pos h, BitVec.ushiftRight_eq', BitVec.toNat_ushiftRight, Nat.shiftRight_eq_div_pow]

/-- The reference's byte: shift by `8 · k`, mask, convert. -/
theorem host_byte (u : ArithUnit) (x : BitVec 32) (k : ℕ) (hk : k < 4) :
    FloatOps.sitofp (F := Ideal) .f32 (IntOp.andi (IntOp.shrui u x (IntOp.muli (BitVec.ofNat 32 k) 8#32)) 255#32) = byteVal x k := by
  have hm : (IntOp.muli (BitVec.ofNat 32 k) 8#32).toNat = 8 * k := by
    interval_cases k <;> rfl
  have hn : (IntOp.andi (IntOp.shrui u x (IntOp.muli (BitVec.ofNat 32 k) 8#32)) 255#32).toNat = byte x k := by
    rw [andi_255, shrui_toNat u _ _ (by omega), hm]
    rfl
  have hb : byte x k < 256 := Nat.mod_lt _ (by decide)
  show (((IntOp.andi _ 255#32 : BitVec 32).toInt : ℝ) : EReal) = _
  rw [toInt_small _ (by omega), hn]
  unfold byteVal
  norm_cast

/-- The kernel's byte: row `a` of the bytes of an array of words is byte `a % 4` of word row `a / 4`. -/
theorem bitcast_byte {R r n : ℕ} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    FloatOps.sitofp (F := Ideal) .f32 (BitVec.setWidth 32 (bitcast ⟨2, ![R, n]⟩ 8 x h (ix2 a l))) = byteVal (x (ix2 p l)) (a.val % 4) := by
  have hb : (bitcast ⟨2, ![R, n]⟩ 8 x h (ix2 a l)).toNat = byte (x (ix2 p l)) (a.val % 4) := by
    have e : bitcast ⟨2, ![R, n]⟩ 8 x h (ix2 a l) = (x (ix2 p l)).extractLsb' (8 * (a.val % 4)) 8 := by
      apply BitVec.eq_of_getLsbD_eq
      intro q hq
      rw [bitcast_getLsbD x h _ q hq (by decide), BitVec.getLsbD_extractLsb']
      have hrow : (⟨2, ![R, n]⟩ : Shape).row (ix2 a l) = a.val := rfl
      have hbit : ((⟨2, ![R, n]⟩ : Shape).row (ix2 a l) * 8 + q) % 32 = 8 * (a.val % 4) + q := by rw [hrow]; omega
      rw [hbit]
      simp only [hq, decide_true, Bool.true_and]
      congr 2
      funext c
      match c with
      | ⟨0, _⟩ =>
        refine Fin.ext ((h.srcIdx_row _ _ _ ⟨0, Nat.zero_lt_two⟩ rfl).trans ?_)
        show ((⟨2, ![R, n]⟩ : Shape).row (ix2 a l) * 8 + q) / 32 = p.val
        rw [hrow]; omega
      | ⟨1, _⟩ => exact Fin.ext (h.srcIdx_other _ _ _ ⟨1, Nat.one_lt_two⟩ (by show ¬ 1 + 2 = 2; omega))
    rw [e, BitVec.extractLsb'_toNat, Nat.shiftRight_eq_div_pow]
    rfl
  have hlt : byte (x (ix2 p l)) (a.val % 4) < 256 := Nat.mod_lt _ (by decide)
  have hn : (BitVec.setWidth 32 (bitcast ⟨2, ![R, n]⟩ 8 x h (ix2 a l))).toNat = byte (x (ix2 p l)) (a.val % 4) := by
    rw [BitVec.toNat_setWidth, hb]; omega
  show (((BitVec.setWidth 32 _ : BitVec 32).toInt : ℝ) : EReal) = _
  rw [toInt_small _ (by omega), hn]
  unfold byteVal
  norm_cast

theorem shrui_8 (u : ArithUnit) (x : BitVec 32) : (IntOp.shrui u x 8#32).toNat = x.toNat / 256 :=
  shrui_toNat u x 8#32 (by decide)

/-- The kernel's random offset: the word's high 24 bits, converted with a sign they never carry. -/
theorem offset_signed (u : ArithUnit) (x : BitVec 32) :
    FloatOps.sitofp (F := Ideal) .f32 (IntOp.shrui u x 8#32) * Ideal.ofBits .f32 0x33800000#32 = offset x := by
  have h := shrui_8 u x
  have hx := x.isLt
  have e : FloatOps.sitofp (F := Ideal) .f32 (IntOp.shrui u x 8#32) = (((x.toNat / 256 : ℕ) : ℝ) : EReal) := by
    show (((IntOp.shrui u x 8#32).toInt : ℝ) : EReal) = _
    rw [toInt_small _ (by omega), h]
    norm_cast
  rw [e]; rfl

/-- The reference's random offset: the same bits, converted without a sign. -/
theorem offset_unsigned (u : ArithUnit) (x : BitVec 32) :
    FloatOps.uitofp (F := Ideal) .f32 (IntOp.shrui u x 8#32) * Ideal.ofBits .f32 0x33800000#32 = offset x := by
  have e : FloatOps.uitofp (F := Ideal) .f32 (IntOp.shrui u x 8#32) = (((x.toNat / 256 : ℕ) : ℝ) : EReal) := by
    show (((IntOp.shrui u x 8#32).toNat : ℝ) : EReal) = _
    rw [shrui_8]
  rw [e]; rfl

end Cert.Row

end
-- ==== Proof.KernelCol.lean ====
module

public import proofs.«01_k».proof.Proof.Sweep
public import proofs.«01_k».proof.Proof.Bytes

@[expose] public section

/-! # One column of the kernel's blocks is one row of the table updated

Over the extended reals, rounding to sixteen bits changes nothing, so the scratch holds the gradient, the gradient less
itself, and that less itself (`parts_high`, `parts_mid`, `parts_low`); the one product with the counts then gives the
three sums of `Row.grad3`, and what follows it is `Row`'s update of the row (`state_at`, `bias_at`, `scale_at`,
`codes_at`). -/

noncomputable section

open Idealize.ShloMosaic Idealize.ShloMosaic.TcCoe Idealize.SL.Sem
open scoped BigOperators

namespace Cert.KernelIdeal.Col

open Cert.KernelIdeal Cert.KernelIdeal.Gen Cert.KernelIdeal.Block

/-! ## The scratch -/

theorem eq_ix2_of {r c : ℕ} (x : (⟨2, ![r, c]⟩ : Shape).Idx) {a : Fin r} {b : Fin c} (h0 : (x 0).val = a.val)
    (h1 : (x 1).val = b.val) : x = ix2 a b := by
  funext k
  match k with
  | ⟨0, _⟩ => exact Fin.ext h0
  | ⟨1, _⟩ => exact Fin.ext h1

theorem parts_high (x0 : Vec Ideal S224x896 .f32) (d : Fin 224) (b : Fin 896) :
    partsOf (F := Ideal) x0 (ix2 ⟨d.val, by omega⟩ b) = k0_pay3 (F := Ideal) x0 (ix2 d b) := by
  have hd := d.isLt
  unfold partsOf partPieces
  canon_tiles x h
  case piece0 =>
    change d.val = 448 + (x 0).val at h0
    omega
  case piece1 =>
    change d.val = 224 + (x 0).val at h0
    omega
  case piece2 =>
    change d.val = (x 0).val at h0
    change b.val = (x 1).val at h1
    rw [← eq_ix2_of x (show (x 0).val = d.val by omega) (show (x 1).val = b.val by omega)]

theorem parts_mid (x0 : Vec Ideal S224x896 .f32) (d : Fin 224) (b : Fin 896) :
    partsOf (F := Ideal) x0 (ix2 ⟨224 + d.val, by omega⟩ b) = k0_pay6 (F := Ideal) x0 (ix2 d b) := by
  have hd := d.isLt
  unfold partsOf partPieces
  canon_tiles x h
  case piece0 =>
    change 224 + d.val = 448 + (x 0).val at h0
    omega
  case piece1 =>
    change 224 + d.val = 224 + (x 0).val at h0
    change b.val = (x 1).val at h1
    rw [← eq_ix2_of x (show (x 0).val = d.val by omega) (show (x 1).val = b.val by omega)]
  case piece2 =>
    change 224 + d.val = (x 0).val at h0
    omega

theorem parts_low (x0 : Vec Ideal S224x896 .f32) (d : Fin 224) (b : Fin 896) :
    partsOf (F := Ideal) x0 (ix2 ⟨448 + d.val, by omega⟩ b) = k0_pay7 (F := Ideal) x0 (ix2 d b) := by
  have hd := d.isLt
  unfold partsOf partPieces
  canon_tiles x h
  case piece0 =>
    change 448 + d.val = 448 + (x 0).val at h0
    change b.val = (x 1).val at h1
    rw [← eq_ix2_of x (show (x 0).val = d.val by omega) (show (x 1).val = b.val by omega)]
  case piece1 =>
    change 448 + d.val = 224 + (x 0).val at h0
    omega
  case piece2 =>
    change 448 + d.val = (x 0).val at h0
    omega

/-! ## A column of the blocks -/

variable (x0 : Vec Ideal S224x896 .f32) (x1 : Vec Ideal S224x512 .i32) (x2 : Vec Ideal S56x512 .i32)
  (x3 x4 x5 : Vec Ideal S1x512 .f32) (x6 : Vec Ideal S224x512 .i32) (l : Fin 512)

/-- The bags' gradients, bag by bag. -/
def bags (b : Fin 896) (d : Fin 224) : EReal := x0 (ix2 d b)

/-- The row's counts, from the packed words. -/
def counts (b : Fin 896) : EReal := Row.byteVal (x1 (ix2 ⟨b.val / 4, by omega⟩ l)) (b.val % 4)

/-- The row's dequantised weights. -/
def weights (d : Fin 224) : EReal :=
  Row.byteVal (x2 (ix2 ⟨d.val / 4, by omega⟩ l)) (d.val % 4) * x3 (ix2 0 l) + x4 (ix2 0 l)

/-- The row's gradient as the kernel sums it. -/
def gradient : Fin 224 → EReal := Row.grad3 (bags x0) (counts x1 l)

theorem count_at (h) (b : Fin 896) :
    FloatOps.sitofp (F := Ideal) .f32 (BitVec.setWidth 32 (bitcast S896x512 8 x1 h (ix2 b l))) = counts x1 l b :=
  Row.bitcast_byte x1 h b l ⟨b.val / 4, by omega⟩ rfl

theorem weights_at (d : Fin 224) : k0_pay8 (F := Ideal) x2 x3 x4 (ix2 d l) = weights x2 x3 x4 l d := by
  pointwise [k0_pay8]
  rw [Row.bitcast_byte x2 _ d l ⟨d.val / 4, by omega⟩ rfl]
  rfl

theorem high_at (d : Fin 224) (b : Fin 896) : partsOf (F := Ideal) x0 (ix2 ⟨d.val, by omega⟩ b) = bags x0 b d := by
  rw [parts_high]
  pointwise [k0_pay3, k0_pay2, k0_pay1]
  rfl

theorem mid_at (d : Fin 224) (b : Fin 896) :
    partsOf (F := Ideal) x0 (ix2 ⟨224 + d.val, by omega⟩ b) = bags x0 b d - bags x0 b d := by
  rw [parts_mid]
  pointwise [k0_pay6, k0_pay5, k0_pay4, k0_pay2, k0_pay1]
  rfl

theorem low_at (d : Fin 224) (b : Fin 896) : partsOf (F := Ideal) x0 (ix2 ⟨448 + d.val, by omega⟩ b)
    = bags x0 b d - bags x0 b d - (bags x0 b d - bags x0 b d) := by
  rw [parts_low]
  pointwise [k0_pay7, k0_pay5, k0_pay4, k0_pay2, k0_pay1]
  rfl

theorem decayed_at (d : Fin 224) :
    k0_pay9 (F := Ideal) x1 (partsOf x0) x2 x3 x4 (ix2 d l) = Row.decayed (gradient x0 x1 l) (weights x2 x3 x4 l) d := by
  have hw := weights_at x2 x3 x4 l d
  have hh := high_at x0 d
  have hm := mid_at x0 d
  have hl := low_at x0 d
  generalize hs : partsOf (F := Ideal) x0 = s at hh hm hl ⊢
  generalize hp : k0_pay8 (F := Ideal) x2 x3 x4 = p at hw
  pointwise [k0_pay9]
  rw [hp, hw]
  simp only [count_at, hh, hm, hl]
  unfold Row.decayed gradient Row.grad3
  rfl

theorem state_at : stateOf (F := Ideal) (partsOf x0) x1 x2 x3 x4 x5 (ix2 0 l)
    = Row.momentum (x5 (ix2 0 l)) (gradient x0 x1 l) (weights x2 x3 x4 l) := by
  unfold stateOf
  pointwise [k0_pay10]
  simp only [decayed_at]
  rfl

theorem stepped_at (d : Fin 224) :
    k0_pay12 (F := Ideal) (k0_pay8 x2 x3 x4) (k0_pay9 x1 (partsOf x0) x2 x3 x4) (k0_pay11 x1 (partsOf x0) x2 x3 x4 x5)
      (Ideal.ofBits .f32 0x322BCC77#32) (ix2 d l)
      = Row.stepped (x5 (ix2 0 l)) (gradient x0 x1 l) (weights x2 x3 x4 l) d := by
  have hs := state_at x0 x1 x2 x3 x4 x5 l
  unfold stateOf at hs
  pointwise [k0_pay12, k0_pay11]
  rw [hs, decayed_at, weights_at]
  rfl

theorem bias_at : biasOf (F := Ideal) (partsOf x0) x1 x2 x3 x4 x5 (ix2 0 l)
    = Row.low (Row.stepped (x5 (ix2 0 l)) (gradient x0 x1 l) (weights x2 x3 x4 l)) := by
  unfold biasOf
  pointwise [k0_pay13]
  simp only [stepped_at]
  rfl

theorem range_at :
    k0_pay14 (F := Ideal) (k0_pay8 x2 x3 x4) (k0_pay9 x1 (partsOf x0) x2 x3 x4) (k0_pay11 x1 (partsOf x0) x2 x3 x4 x5)
      (Ideal.ofBits .f32 0x322BCC77#32) (ix2 0 l)
    = Row.range (Row.stepped (x5 (ix2 0 l)) (gradient x0 x1 l) (weights x2 x3 x4 l)) := by
  have hb := bias_at x0 x1 x2 x3 x4 x5 l
  change k0_pay13 _ _ _ (Ideal.ofBits .f32 0x322BCC77#32) (ix2 0 l) = _ at hb
  pointwise [k0_pay14]
  rw [hb]
  simp only [stepped_at]
  rfl

theorem scale_at : scaleOf (F := Ideal) (partsOf x0) x1 x2 x3 x4 x5 (ix2 0 l)
    = Row.scale (Row.stepped (x5 (ix2 0 l)) (gradient x0 x1 l) (weights x2 x3 x4 l)) := by
  unfold scaleOf
  pointwise [k0_pay16]
  rw [range_at]
  rfl

theorem codes_at (d : Fin 224) : codesOf (F := Ideal) (partsOf x0) x1 x2 x3 x4 x5 x6 (ix2 d l)
    = Row.code (Row.stepped (x5 (ix2 0 l)) (gradient x0 x1 l) (weights x2 x3 x4 l)) (x6 (ix2 d l)) d := by
  have hb := bias_at x0 x1 x2 x3 x4 x5 l
  change k0_pay13 _ _ _ (Ideal.ofBits .f32 0x322BCC77#32) (ix2 0 l) = _ at hb
  unfold codesOf
  pointwise [k0_pay15]
  rw [hb, range_at, stepped_at, Row.offset_signed]
  rfl

end Cert.KernelIdeal.Col

end
-- ==== Proof.Result.lean ====
module

public import proofs.«01_k».proof.Proof.KernelCol

@[expose] public section

/-! # The kernel's four results, entry by entry

Row `n` of the table, from the argument arrays: its gradient summed the kernel's way (`gradient`) and its weights
(`weights`). Every entry of the four result arrays is `Row`'s update of such a row (`G7_at` … `G10_at`: new codes, new
scales, new biases, new momentum). -/

noncomputable section

open Idealize.ShloMosaic Idealize.ShloMosaic.TcCoe Idealize.SL.Sem
open scoped BigOperators

namespace Cert.KernelIdeal.Result

open Cert.KernelIdeal Cert.KernelIdeal.Gen Cert.KernelIdeal.Value Cert.KernelIdeal.Block Cert.KernelIdeal.Sweep

variable (m : (ℓ : Loc nD τ sig) → Buf (Elt Ideal) ℓ)

/-- The bags' gradients, bag by bag. -/
def bags (c : Dev nD) (b : Fin 896) (d : Fin 224) : EReal := m ((c : Thread nD τ).loc main_arg0) (ix2 b d)

/-- How often each bag holds row `n`. -/
def counts (c : Dev nD) (n : Fin 28672) (b : Fin 896) : EReal :=
  Row.byteVal (m ((c : Thread nD τ).loc main_arg1) (ix2 ⟨b.val / 4, by omega⟩ n)) (b.val % 4)

/-- The dequantised weights of row `n`. -/
def weights (c : Dev nD) (n : Fin 28672) (d : Fin 224) : EReal :=
  Row.byteVal (m ((c : Thread nD τ).loc main_arg2) (ix2 ⟨d.val / 4, by omega⟩ n)) (d.val % 4)
    * m ((c : Thread nD τ).loc main_arg3) (ix1 n) + m ((c : Thread nD τ).loc main_arg4) (ix1 n)

/-- The gradient of row `n` in the kernel's three sums. -/
def gradient (c : Dev nD) (n : Fin 28672) : Fin 224 → EReal := Row.grad3 (bags m c) (counts m c n)

/-! ## One column of a block -/

theorem gradient_col (c : Dev nD) (t0 t : Fin cfg0.N) (l : Fin 512) :
    Col.gradient (iblk m c 0 t0) (iblk m c 1 t) l = gradient m c (row t l) := by
  have h0 : Col.bags (iblk m c 0 t0) = bags m c := by
    funext b d
    exact blk0 m c t0 d b
  have h1 : Col.counts (iblk m c 1 t) l = counts m c (row t l) := by
    funext b
    unfold Col.counts counts
    rw [blk1]
  unfold Col.gradient gradient
  rw [h0, h1]

theorem weights_col (c : Dev nD) (t : Fin cfg0.N) (l : Fin 512) :
    Col.weights (iblk m c 2 t) (iblk m c 3 t) (iblk m c 4 t) l = weights m c (row t l) := by
  funext d
  unfold Col.weights weights
  rw [blk2, blk3, blk4]

theorem state_col (c : Dev nD) (t : Fin cfg0.N) (l : Fin 512) :
    stateOf (parts m c) (iblk m c 1 t) (iblk m c 2 t) (iblk m c 3 t) (iblk m c 4 t) (iblk m c 5 t) (ix2 0 l)
      = Row.momentum (m ((c : Thread nD τ).loc main_arg5) (ix1 (row t l))) (gradient m c (row t l)) (weights m c (row t l)) := by
  unfold parts
  refine (Col.state_at _ (iblk m c 1 t) (iblk m c 2 t) (iblk m c 3 t) (iblk m c 4 t) (iblk m c 5 t) l).trans ?_
  rw [gradient_col, weights_col, blk5]

theorem bias_col (c : Dev nD) (t : Fin cfg0.N) (l : Fin 512) :
    biasOf (parts m c) (iblk m c 1 t) (iblk m c 2 t) (iblk m c 3 t) (iblk m c 4 t) (iblk m c 5 t) (ix2 0 l)
      = Row.low (Row.stepped (m ((c : Thread nD τ).loc main_arg5) (ix1 (row t l))) (gradient m c (row t l)) (weights m c (row t l))) := by
  unfold parts
  refine (Col.bias_at _ (iblk m c 1 t) (iblk m c 2 t) (iblk m c 3 t) (iblk m c 4 t) (iblk m c 5 t) l).trans ?_
  rw [gradient_col, weights_col, blk5]

theorem scale_col (c : Dev nD) (t : Fin cfg0.N) (l : Fin 512) :
    scaleOf (parts m c) (iblk m c 1 t) (iblk m c 2 t) (iblk m c 3 t) (iblk m c 4 t) (iblk m c 5 t) (ix2 0 l)
      = Row.scale (Row.stepped (m ((c : Thread nD τ).loc main_arg5) (ix1 (row t l))) (gradient m c (row t l)) (weights m c (row t l))) := by
  unfold parts
  refine (Col.scale_at _ (iblk m c 1 t) (iblk m c 2 t) (iblk m c 3 t) (iblk m c 4 t) (iblk m c 5 t) l).trans ?_
  rw [gradient_col, weights_col, blk5]

theorem codes_col (c : Dev nD) (t : Fin cfg0.N) (d : Fin 224) (l : Fin 512) :
    codesOf (parts m c) (iblk m c 1 t) (iblk m c 2 t) (iblk m c 3 t) (iblk m c 4 t) (iblk m c 5 t) (iblk m c 6 t) (ix2 d l)
      = Row.code (Row.stepped (m ((c : Thread nD τ).loc main_arg5) (ix1 (row t l))) (gradient m c (row t l)) (weights m c (row t l))) (m ((c : Thread nD τ).loc main_arg6) (ix2 (row t l) d)) d := by
  unfold parts
  refine (Col.codes_at _ (iblk m c 1 t) (iblk m c 2 t) (iblk m c 3 t) (iblk m c 4 t) (iblk m c 5 t) (iblk m c 6 t) l d).trans ?_
  rw [gradient_col, weights_col, blk5, blk6]

/-! ## The result arrays -/

theorem G7_at (c : Dev nD) (d : Fin 224) (n : Fin 28672) : G7 m c (ix2 d n) = Row.code (Row.stepped (m ((c : Thread nD τ).loc main_arg5) (ix1 n)) (gradient m c n) (weights m c n)) (m ((c : Thread nD τ).loc main_arg6) (ix2 n d)) d := by
  have hn := n.isLt
  have hd := d.isLt
  have hp : pt7Of (ix2 d n) < cfg0.N := by
    refine lt_of_lt_of_eq (?_ : 56 * (d.val / 224 - 0) + 1 * (n.val / 512 - 0) < 56) (show 56 = cfg0.N from N_0.symm)
    omega
  have hr : row ⟨pt7Of (ix2 d n), hp⟩ ⟨n.val % 512, Nat.mod_lt _ (by decide)⟩ = n := by
    refine Fin.ext ?_
    show 512 * (56 * (d.val / 224 - 0) + 1 * (n.val / 512 - 0)) + n.val % 512 = n.val
    omega
  have hl : loc7Of (ix2 d n) = ix2 d ⟨n.val % 512, Nat.mod_lt _ (by decide)⟩ :=
    Col.eq_ix2_of _ (Nat.mod_eq_of_lt hd) rfl
  unfold G7
  rw [dif_pos hp, ← outsAt0_sweep, outs_eq, hl]
  refine (codes_col m c ⟨pt7Of (ix2 d n), hp⟩ d ⟨n.val % 512, Nat.mod_lt _ (by decide)⟩).trans ?_
  rw [hr]

theorem G8_at (c : Dev nD) (n : Fin 28672) : G8 m c (ix2 0 n) = Row.scale (Row.stepped (m ((c : Thread nD τ).loc main_arg5) (ix1 n)) (gradient m c n) (weights m c n)) := by
  have hn := n.isLt

  have hp : pt8Of (ix2 0 n) < cfg0.N := by
    show 56 * (0 / 1 - 0) + 1 * (n.val / 512 - 0) < cfg0.N
    rw [show cfg0.N = 56 from N_0]; omega
  have hr : row ⟨pt8Of (ix2 0 n), hp⟩ ⟨n.val % 512, Nat.mod_lt _ (by decide)⟩ = n := by
    refine Fin.ext ?_
    show 512 * (56 * (0 / 1 - 0) + 1 * (n.val / 512 - 0)) + n.val % 512 = n.val
    omega
  have hl : loc8Of (ix2 0 n) = ix2 0 ⟨n.val % 512, Nat.mod_lt _ (by decide)⟩ :=
    Col.eq_ix2_of _ rfl rfl
  unfold G8
  rw [dif_pos hp, ← outsAt0_sweep, outs_eq, hl]
  refine (scale_col m c ⟨pt8Of (ix2 0 n), hp⟩ ⟨n.val % 512, Nat.mod_lt _ (by decide)⟩).trans ?_
  rw [hr]

theorem G9_at (c : Dev nD) (n : Fin 28672) : G9 m c (ix2 0 n) = Row.low (Row.stepped (m ((c : Thread nD τ).loc main_arg5) (ix1 n)) (gradient m c n) (weights m c n)) := by
  have hn := n.isLt

  have hp : pt9Of (ix2 0 n) < cfg0.N := by
    show 56 * (0 / 1 - 0) + 1 * (n.val / 512 - 0) < cfg0.N
    rw [show cfg0.N = 56 from N_0]; omega
  have hr : row ⟨pt9Of (ix2 0 n), hp⟩ ⟨n.val % 512, Nat.mod_lt _ (by decide)⟩ = n := by
    refine Fin.ext ?_
    show 512 * (56 * (0 / 1 - 0) + 1 * (n.val / 512 - 0)) + n.val % 512 = n.val
    omega
  have hl : loc9Of (ix2 0 n) = ix2 0 ⟨n.val % 512, Nat.mod_lt _ (by decide)⟩ :=
    Col.eq_ix2_of _ rfl rfl
  unfold G9
  rw [dif_pos hp, ← outsAt0_sweep, outs_eq, hl]
  dsimp only
  refine (bias_col m c ⟨pt9Of (ix2 0 n), hp⟩ ⟨n.val % 512, Nat.mod_lt _ (by decide)⟩).trans ?_
  rw [hr]

theorem G10_at (c : Dev nD) (n : Fin 28672) : G10 m c (ix2 0 n) = Row.momentum (m ((c : Thread nD τ).loc main_arg5) (ix1 n)) (gradient m c n) (weights m c n) := by
  have hn := n.isLt

  have hp : pt10Of (ix2 0 n) < cfg0.N := by
    show 56 * (0 / 1 - 0) + 1 * (n.val / 512 - 0) < cfg0.N
    rw [show cfg0.N = 56 from N_0]; omega
  have hr : row ⟨pt10Of (ix2 0 n), hp⟩ ⟨n.val % 512, Nat.mod_lt _ (by decide)⟩ = n := by
    refine Fin.ext ?_
    show 512 * (56 * (0 / 1 - 0) + 1 * (n.val / 512 - 0)) + n.val % 512 = n.val
    omega
  have hl : loc10Of (ix2 0 n) = ix2 0 ⟨n.val % 512, Nat.mod_lt _ (by decide)⟩ :=
    Col.eq_ix2_of _ rfl rfl
  unfold G10
  rw [dif_pos hp, ← outsAt0_sweep, outs_eq, hl]
  refine (state_col m c ⟨pt10Of (ix2 0 n), hp⟩ ⟨n.val % 512, Nat.mod_lt _ (by decide)⟩).trans ?_
  rw [hr]

end Cert.KernelIdeal.Result

end
-- ==== Proof.RefCol.lean ====
module

public import proofs.«01_k».proof.Proof.Gen.ReferenceIdeal.Run
public import proofs.«01_k».proof.Proof.Bytes

@[expose] public section

/-! # One row of the reference

The reference's composed result terms, cut into the steps of the mathematics (`rCounts` … `rNewState`), and each step
read at an index: row `n` of every array is `Row`'s update of row `n` of the table. -/

noncomputable section

open Idealize.ShloMosaic Idealize.ShloMosaic.TcCoe Idealize.SL.Sem
open scoped BigOperators

namespace Cert.ReferenceIdeal.Col

open Cert.ReferenceIdeal Cert.ReferenceIdeal.Gen

/-! ## The steps -/

/-- The old codes, one byte each, row by row of the table. -/
def rCodes (x2 : IVec S56x28672 32) : IVec S28672x224 32 :=
  transpose S28672x224 [1, 0] (shapeCast S224x28672 (andi (Host.shrui (broadcastInDim S56x4x28672 ![0, 1, 2] bcast_S56x1x28672_S56x4x28672_0_1_2 (broadcastInDim S56x1x28672 ![0, 2] bcast_S56x28672_S56x1x28672_0_2 x2)) (broadcastInDim S56x4x28672 ![0, 1, 2] bcast_S1x4x1_S56x4x28672_0_1_2 (muli (broadcastInDim S1x4x1 ![1] bcast_S4_S1x4x1_1 (iotaInDim S4 32 0)) (broadcastInDim S1x4x1 ![] bcast_S_S1x4x1 (constantI S_ 32 8#32))))) (broadcastInDim S56x4x28672 ![] bcast_S_S56x4x28672 (constantI S_ 32 255#32))) shapeCasts_S56x4x28672_S224x28672) transposes_S224x28672_S28672x224_1_0

/-- The counts, one byte each, row by row of the table. -/
def rCounts (x1 : IVec S224x28672 32) : IVec S28672x896 32 :=
  transpose S28672x896 [1, 0] (shapeCast S896x28672 (andi (Host.shrui (broadcastInDim S224x4x28672 ![0, 1, 2] bcast_S224x1x28672_S224x4x28672_0_1_2 (broadcastInDim S224x1x28672 ![0, 2] bcast_S224x28672_S224x1x28672_0_2 x1)) (broadcastInDim S224x4x28672 ![0, 1, 2] bcast_S1x4x1_S224x4x28672_0_1_2 (muli (broadcastInDim S1x4x1 ![1] bcast_S4_S1x4x1_1 (iotaInDim S4 32 0)) (broadcastInDim S1x4x1 ![] bcast_S_S1x4x1 (constantI S_ 32 8#32))))) (broadcastInDim S224x4x28672 ![] bcast_S_S224x4x28672 (constantI S_ 32 255#32))) shapeCasts_S224x4x28672_S896x28672) transposes_S896x28672_S28672x896_1_0

/-- The dequantised weights. -/
def rWeights (x2 : IVec S56x28672 32) (x3 : FVec Ideal S28672 .f32) (x4 : FVec Ideal S28672 .f32) : FVec Ideal S28672x224 .f32 :=
  addf (mulf (sitofp .f32 (rCodes x2)) (broadcastInDim S28672x224 ![0, 1] bcast_S28672x1_S28672x224_0_1 (broadcastInDim S28672x1 ![0] bcast_S28672_S28672x1_0 x3))) (broadcastInDim S28672x224 ![0, 1] bcast_S28672x1_S28672x224_0_1 (broadcastInDim S28672x1 ![0] bcast_S28672_S28672x1_0 x4))

/-- The gradient of every row. -/
def rGrad (x0 : FVec Ideal S896x224 .f32) (x1 : IVec S224x28672 32) : FVec Ideal S28672x224 .f32 :=
  Host.dotGeneral dot_S28672x896_S896x224_S28672x224_1_0_0_1_n_n none (sitofp .f32 (rCounts x1)) x0

/-- The gradient with weight decay. -/
def rDecayed (x0 : FVec Ideal S896x224 .f32) (x1 : IVec S224x28672 32) (x2 : IVec S56x28672 32) (x3 : FVec Ideal S28672 .f32) (x4 : FVec Ideal S28672 .f32) : FVec Ideal S28672x224 .f32 :=
  addf (rGrad x0 x1) (mulf (broadcastInDim S28672x224 ![] bcast_S_S28672x224 (constant S_ .f32 0x3D4CCCCD#32)) (rWeights x2 x3 x4))

/-- The new momentum. -/
def rState (x0 : FVec Ideal S896x224 .f32) (x1 : IVec S224x28672 32) (x2 : IVec S56x28672 32) (x3 : FVec Ideal S28672 .f32) (x4 : FVec Ideal S28672 .f32) (x5 : FVec Ideal S28672 .f32) : FVec Ideal S28672 .f32 :=
  addf x5 (Host.divf (Host.reduceAdd (mulf (rDecayed x0 x1 x2 x3 x4) (rDecayed x0 x1 x2 x3 x4)) (constant S_ .f32 0x00000000#32) reducesTo_S28672x224_S28672_d1 h_S_) (broadcastInDim S28672 ![] bcast_S_S28672 (constant S_ .f32 0x43600000#32)))

/-- The stepped weights. -/
def rStepped (x0 : FVec Ideal S896x224 .f32) (x1 : IVec S224x28672 32) (x2 : IVec S56x28672 32) (x3 : FVec Ideal S28672 .f32) (x4 : FVec Ideal S28672 .f32) (x5 : FVec Ideal S28672 .f32) : FVec Ideal S28672x224 .f32 :=
  subf (rWeights x2 x3 x4) (mulf (broadcastInDim S28672x224 ![0, 1] bcast_S28672x1_S28672x224_0_1 (broadcastInDim S28672x1 ![0] bcast_S28672_S28672x1_0 (Host.divf (broadcastInDim S28672 ![] bcast_S_S28672 (constant S_ .f32 0x3CA3D70A#32)) (addf (Host.sqrt (rState x0 x1 x2 x3 x4 x5)) (broadcastInDim S28672 ![] bcast_S_S28672 (constant S_ .f32 0x322BCC77#32)))))) (rDecayed x0 x1 x2 x3 x4))

/-- The least entry of every row. -/
def rLow (x0 : FVec Ideal S896x224 .f32) (x1 : IVec S224x28672 32) (x2 : IVec S56x28672 32) (x3 : FVec Ideal S28672 .f32) (x4 : FVec Ideal S28672 .f32) (x5 : FVec Ideal S28672 .f32) : FVec Ideal S28672 .f32 :=
  Host.reduce FloatOps.minimumf (rStepped x0 x1 x2 x3 x4 x5) (constant S_ .f32 0x7F800000#32) reducesTo_S28672x224_S28672_d1 h_S_

/-- The greatest entry of every row. -/
def rHigh (x0 : FVec Ideal S896x224 .f32) (x1 : IVec S224x28672 32) (x2 : IVec S56x28672 32) (x3 : FVec Ideal S28672 .f32) (x4 : FVec Ideal S28672 .f32) (x5 : FVec Ideal S28672 .f32) : FVec Ideal S28672 .f32 :=
  Host.reduce FloatOps.maximumf (rStepped x0 x1 x2 x3 x4 x5) (constant S_ .f32 0xFF800000#32) reducesTo_S28672x224_S28672_d1 h_S_

/-- The range of every row. -/
def rRange (x0 : FVec Ideal S896x224 .f32) (x1 : IVec S224x28672 32) (x2 : IVec S56x28672 32) (x3 : FVec Ideal S28672 .f32) (x4 : FVec Ideal S28672 .f32) (x5 : FVec Ideal S28672 .f32) : FVec Ideal S28672 .f32 :=
  subf (rHigh x0 x1 x2 x3 x4 x5) (rLow x0 x1 x2 x3 x4 x5)

/-- The values the codes are rounded from, with their random offsets. -/
def rScaled (x0 : FVec Ideal S896x224 .f32) (x1 : IVec S224x28672 32) (x2 : IVec S56x28672 32) (x3 : FVec Ideal S28672 .f32) (x4 : FVec Ideal S28672 .f32) (x5 : FVec Ideal S28672 .f32) (x6 : IVec S28672x224 32) : FVec Ideal S28672x224 .f32 :=
  addf (mulf (subf (rStepped x0 x1 x2 x3 x4 x5) (broadcastInDim S28672x224 ![0, 1] bcast_S28672x1_S28672x224_0_1 (broadcastInDim S28672x1 ![0] bcast_S28672_S28672x1_0 (rLow x0 x1 x2 x3 x4 x5)))) (broadcastInDim S28672x224 ![0, 1] bcast_S28672x1_S28672x224_0_1 (broadcastInDim S28672x1 ![0] bcast_S28672_S28672x1_0 (Host.divf (broadcastInDim S28672 ![] bcast_S_S28672 (constant S_ .f32 0x437F0000#32)) (addf (rRange x0 x1 x2 x3 x4 x5) (broadcastInDim S28672 ![] bcast_S_S28672 (constant S_ .f32 0x322BCC77#32))))))) (mulf (uitofp .f32 (Host.shrui x6 (broadcastInDim S28672x224 ![] bcast_S_S28672x224 (constantI S_ 32 8#32)))) (broadcastInDim S28672x224 ![] bcast_S_S28672x224 (constant S_ .f32 0x33800000#32)))

/-- The new codes. -/
def rNewCodes (x0 : FVec Ideal S896x224 .f32) (x1 : IVec S224x28672 32) (x2 : IVec S56x28672 32) (x3 : FVec Ideal S28672 .f32) (x4 : FVec Ideal S28672 .f32) (x5 : FVec Ideal S28672 .f32) (x6 : IVec S28672x224 32) : IVec S224x28672 8 :=
  transpose S224x28672 [1, 0] (trunci 8 (fptosi 32 (minimumf (broadcastInDim S28672x224 ![] bcast_S_S28672x224 (id (constant S_ .f32 0x437F0000#32))) (maximumf (broadcastInDim S28672x224 ![] bcast_S_S28672x224 (id (constant S_ .f32 0x00000000#32))) (Host.floor (rScaled x0 x1 x2 x3 x4 x5 x6))))) natLt_8_32) transposes_S28672x224_S224x28672_1_0

/-- The new scales. -/
def rNewScale (x0 : FVec Ideal S896x224 .f32) (x1 : IVec S224x28672 32) (x2 : IVec S56x28672 32) (x3 : FVec Ideal S28672 .f32) (x4 : FVec Ideal S28672 .f32) (x5 : FVec Ideal S28672 .f32) : FVec Ideal S1x28672 .f32 :=
  shapeCast S1x28672 (Host.divf (rRange x0 x1 x2 x3 x4 x5) (broadcastInDim S28672 ![] bcast_S_S28672 (constant S_ .f32 0x437F0000#32))) shapeCasts_S28672_S1x28672

/-- The new biases. -/
def rNewBias (x0 : FVec Ideal S896x224 .f32) (x1 : IVec S224x28672 32) (x2 : IVec S56x28672 32) (x3 : FVec Ideal S28672 .f32) (x4 : FVec Ideal S28672 .f32) (x5 : FVec Ideal S28672 .f32) : FVec Ideal S1x28672 .f32 :=
  shapeCast S1x28672 (rLow x0 x1 x2 x3 x4 x5) shapeCasts_S28672_S1x28672

/-- The new momentum, as a row. -/
def rNewState (x0 : FVec Ideal S896x224 .f32) (x1 : IVec S224x28672 32) (x2 : IVec S56x28672 32) (x3 : FVec Ideal S28672 .f32) (x4 : FVec Ideal S28672 .f32) (x5 : FVec Ideal S28672 .f32) : FVec Ideal S1x28672 .f32 :=
  shapeCast S1x28672 (rState x0 x1 x2 x3 x4 x5) shapeCasts_S28672_S1x28672

/-! ## The steps at an index -/

variable (x0 : FVec Ideal S896x224 .f32) (x1 : IVec S224x28672 32) (x2 : IVec S56x28672 32) (x3 x4 x5 : FVec Ideal S28672 .f32) (x6 : IVec S28672x224 32) (n : Fin 28672)

/-- The row's counts. -/
def counts (b : Fin 896) : EReal := Row.byteVal (x1 (ix2 ⟨b.val / 4, by omega⟩ n)) (b.val % 4)

/-- The bags' gradients, bag by bag. -/
def bags (b : Fin 896) (d : Fin 224) : EReal := x0 (ix2 b d)

/-- The row's dequantised weights. -/
def weights (d : Fin 224) : EReal :=
  Row.byteVal (x2 (ix2 ⟨d.val / 4, by omega⟩ n)) (d.val % 4) * x3 (ix1 n) + x4 (ix1 n)

/-- The row's gradient. -/
def gradient : Fin 224 → EReal := Row.grad (bags x0) (counts x1 n)

theorem counts_at (b : Fin 896) : sitofp (F := Ideal) .f32 (rCounts x1) (ix2 n b) = counts x1 n b := by
  pointwise [rCounts]
  exact Row.host_byte _ _ _ (Nat.mod_lt _ (by decide))

theorem codes_at (d : Fin 224) : sitofp (F := Ideal) .f32 (rCodes x2) (ix2 n d)
    = Row.byteVal (x2 (ix2 ⟨d.val / 4, by omega⟩ n)) (d.val % 4) := by
  pointwise [rCodes]
  exact Row.host_byte _ _ _ (Nat.mod_lt _ (by decide))

theorem weights_at (d : Fin 224) : rWeights x2 x3 x4 (ix2 n d) = weights x2 x3 x4 n d := by
  have h := codes_at x2 n d
  unfold rWeights
  generalize sitofp (F := Ideal) .f32 (rCodes x2) = p at h ⊢
  pointwise
  rw [h]
  rfl

theorem grad_at (d : Fin 224) : rGrad x0 x1 (ix2 n d) = gradient x0 x1 n d := by
  have h := counts_at x1 n
  unfold rGrad
  generalize sitofp (F := Ideal) .f32 (rCounts x1) = p at h ⊢
  pointwise
  simp only [h]
  rfl

theorem decayed_at (d : Fin 224) :
    rDecayed x0 x1 x2 x3 x4 (ix2 n d) = Row.decayed (gradient x0 x1 n) (weights x2 x3 x4 n) d := by
  pointwise [rDecayed]
  rw [weights_at, grad_at]
  rfl

theorem state_at : rState x0 x1 x2 x3 x4 x5 (ix1 n)
    = Row.momentum (x5 (ix1 n)) (gradient x0 x1 n) (weights x2 x3 x4 n) := by
  pointwise [rState]
  simp only [decayed_at]
  rfl

theorem stepped_at (d : Fin 224) : rStepped x0 x1 x2 x3 x4 x5 (ix2 n d)
    = Row.stepped (x5 (ix1 n)) (gradient x0 x1 n) (weights x2 x3 x4 n) d := by
  pointwise [rStepped]
  rw [state_at, decayed_at, weights_at]
  rfl

theorem low_at : rLow x0 x1 x2 x3 x4 x5 (ix1 n)
    = Row.low (Row.stepped (x5 (ix1 n)) (gradient x0 x1 n) (weights x2 x3 x4 n)) := by
  have h := stepped_at x0 x1 x2 x3 x4 x5 n
  unfold rLow
  generalize rStepped x0 x1 x2 x3 x4 x5 = p at h ⊢
  pointwise
  simp only [h]
  rw [Row.low]

theorem high_at : rHigh x0 x1 x2 x3 x4 x5 (ix1 n) = Finset.univ.fold max (Ideal.ofBits .f32 0xFF800000#32)
    (Row.stepped (x5 (ix1 n)) (gradient x0 x1 n) (weights x2 x3 x4 n)) := by
  have h := stepped_at x0 x1 x2 x3 x4 x5 n
  unfold rHigh
  generalize rStepped x0 x1 x2 x3 x4 x5 = p at h ⊢
  pointwise
  simp only [h]

theorem sub_read (p q : FVec Ideal S28672 .f32) : subf p q (ix1 n) = p (ix1 n) - q (ix1 n) := rfl

theorem range_at : rRange x0 x1 x2 x3 x4 x5 (ix1 n)
    = Row.range (Row.stepped (x5 (ix1 n)) (gradient x0 x1 n) (weights x2 x3 x4 n)) := by
  have h := high_at x0 x1 x2 x3 x4 x5 n
  have hl := low_at x0 x1 x2 x3 x4 x5 n
  unfold rRange
  refine (sub_read n (rHigh x0 x1 x2 x3 x4 x5) (rLow x0 x1 x2 x3 x4 x5)).trans ?_
  rw [h, hl, Row.range]

theorem newState_at : rNewState x0 x1 x2 x3 x4 x5 (ix2 0 n)
    = Row.momentum (x5 (ix1 n)) (gradient x0 x1 n) (weights x2 x3 x4 n) := by
  pointwise [rNewState]
  exact state_at x0 x1 x2 x3 x4 x5 n

theorem newBias_at : rNewBias x0 x1 x2 x3 x4 x5 (ix2 0 n)
    = Row.low (Row.stepped (x5 (ix1 n)) (gradient x0 x1 n) (weights x2 x3 x4 n)) := by
  pointwise [rNewBias]
  exact low_at x0 x1 x2 x3 x4 x5 n

theorem newScale_at : rNewScale x0 x1 x2 x3 x4 x5 (ix2 0 n)
    = Row.scale (Row.stepped (x5 (ix1 n)) (gradient x0 x1 n) (weights x2 x3 x4 n)) := by
  pointwise [rNewScale]
  rw [range_at]
  rfl

theorem scaled_read (p : FVec Ideal S28672x224 .f32) (q r : FVec Ideal S28672 .f32) (d : Fin 224) :
    (addf (mulf (subf p (broadcastInDim S28672x224 ![0, 1] bcast_S28672x1_S28672x224_0_1 (broadcastInDim S28672x1 ![0] bcast_S28672_S28672x1_0 q))) (broadcastInDim S28672x224 ![0, 1] bcast_S28672x1_S28672x224_0_1 (broadcastInDim S28672x1 ![0] bcast_S28672_S28672x1_0 (Host.divf (broadcastInDim S28672 ![] bcast_S_S28672 (constant S_ .f32 0x437F0000#32)) (addf r (broadcastInDim S28672 ![] bcast_S_S28672 (constant S_ .f32 0x322BCC77#32))))))) (mulf (uitofp .f32 (Host.shrui x6 (broadcastInDim S28672x224 ![] bcast_S_S28672x224 (constantI S_ 32 8#32)))) (broadcastInDim S28672x224 ![] bcast_S_S28672x224 (constant S_ .f32 0x33800000#32)))) (ix2 n d)
      = (p (ix2 n d) - q (ix1 n)) * Ideal.div (Ideal.ofBits .f32 0x437F0000#32) (r (ix1 n) + Ideal.ofBits .f32 0x322BCC77#32)
        + Row.offset (x6 (ix2 n d)) := by
  pointwise
  rw [Row.offset_unsigned]

theorem scaled_at (d : Fin 224) : rScaled x0 x1 x2 x3 x4 x5 x6 (ix2 n d)
    = Row.scaled (Row.stepped (x5 (ix1 n)) (gradient x0 x1 n) (weights x2 x3 x4 n)) d + Row.offset (x6 (ix2 n d)) := by
  have h := stepped_at x0 x1 x2 x3 x4 x5 n d
  have hl := low_at x0 x1 x2 x3 x4 x5 n
  have hr := range_at x0 x1 x2 x3 x4 x5 n
  unfold rScaled
  refine (scaled_read x6 n (rStepped x0 x1 x2 x3 x4 x5) (rLow x0 x1 x2 x3 x4 x5) (rRange x0 x1 x2 x3 x4 x5) d).trans ?_
  rw [hr, hl, h, Row.scaled]

theorem codes_read (p : FVec Ideal S28672x224 .f32) (d : Fin 224) :
    transpose S224x28672 [1, 0] (trunci 8 (fptosi 32 (minimumf (broadcastInDim S28672x224 ![] bcast_S_S28672x224 (id (constant S_ .f32 0x437F0000#32))) (maximumf (broadcastInDim S28672x224 ![] bcast_S_S28672x224 (id (constant S_ .f32 0x00000000#32))) (Host.floor p)))) natLt_8_32) transposes_S28672x224_S224x28672_1_0 (ix2 d n)
      = (Ideal.fptosi 32 (min (Ideal.ofBits .f32 0x437F0000#32) (max 0 (Ideal.liftRound Int.floor (p (ix2 n d)))))).setWidth 8 := by
  dsimp only [id]
  pointwise
  rfl

theorem newCodes_at (d : Fin 224) : rNewCodes x0 x1 x2 x3 x4 x5 x6 (ix2 d n)
    = Row.code (Row.stepped (x5 (ix1 n)) (gradient x0 x1 n) (weights x2 x3 x4 n)) (x6 (ix2 n d)) d := by
  have h := scaled_at x0 x1 x2 x3 x4 x5 x6 n d
  unfold rNewCodes
  refine (codes_read n (rScaled x0 x1 x2 x3 x4 x5 x6) d).trans ?_
  rw [h, Row.code]

/-! ## The reference's results are the last steps -/

theorem res_codes (m : (ℓ : Loc nD τ sig) → Buf (Elt Ideal) ℓ) (c : Dev nD) : Value.res_main_v75 m c
    = rNewCodes (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

theorem res_scale (m : (ℓ : Loc nD τ sig) → Buf (Elt Ideal) ℓ) (c : Dev nD) : Value.res_main_v76 m c
    = rNewScale (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem res_bias (m : (ℓ : Loc nD τ sig) → Buf (Elt Ideal) ℓ) (c : Dev nD) : Value.res_main_v77 m c
    = rNewBias (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-- The reference's run with its results as the last steps of this file. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75) = Value.res_main_v75 m c
      ∧ r.2.mem ((c.tc : Thread nD τ).loc main_v76) = Value.res_main_v76 m c
      ∧ r.2.mem ((c.tc : Thread nD τ).loc main_v77) = Value.res_main_v77 m c
      ∧ r.2.mem ((c.tc : Thread nD τ).loc main_v78)
        = rNewState (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.ReferenceIdeal.Col

end
-- ==== Proof.Equal.lean ====
module

public import proofs.«01_k».proof.Proof.Result
public import proofs.«01_k».proof.Proof.RefCol

@[expose] public section

/-! # The kernel's results are the reference's

Entry by entry both are `Row`'s update of one row of the table, the kernel's with the gradient in its three sums, the
reference's with the gradient as one sum. The counts are bytes, so real and not negative, and then the two gradients
agree up to infinities (`Row.agree_grad3`), which is all the update sees of them. -/

noncomputable section

open Idealize.ShloMosaic Idealize.ShloMosaic.TcCoe Idealize.SL.Sem

namespace Cert.Equal

/-- The kernel's memory and the reference's. -/
abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-- The two memories hold the same arguments. -/
structure Same (m : KMem) (m' : RMem) (c : Dev KernelIdeal.nD) : Prop where
  a0 : m' ((c.tc : Thread ReferenceIdeal.nD ReferenceIdeal.τ).loc ReferenceIdeal.main_arg0) = m ((c.tc : Thread KernelIdeal.nD KernelIdeal.τ).loc KernelIdeal.main_arg0)
  a1 : m' ((c.tc : Thread ReferenceIdeal.nD ReferenceIdeal.τ).loc ReferenceIdeal.main_arg1) = m ((c.tc : Thread KernelIdeal.nD KernelIdeal.τ).loc KernelIdeal.main_arg1)
  a2 : m' ((c.tc : Thread ReferenceIdeal.nD ReferenceIdeal.τ).loc ReferenceIdeal.main_arg2) = m ((c.tc : Thread KernelIdeal.nD KernelIdeal.τ).loc KernelIdeal.main_arg2)
  a3 : m' ((c.tc : Thread ReferenceIdeal.nD ReferenceIdeal.τ).loc ReferenceIdeal.main_arg3) = m ((c.tc : Thread KernelIdeal.nD KernelIdeal.τ).loc KernelIdeal.main_arg3)
  a4 : m' ((c.tc : Thread ReferenceIdeal.nD ReferenceIdeal.τ).loc ReferenceIdeal.main_arg4) = m ((c.tc : Thread KernelIdeal.nD KernelIdeal.τ).loc KernelIdeal.main_arg4)
  a5 : m' ((c.tc : Thread ReferenceIdeal.nD ReferenceIdeal.τ).loc ReferenceIdeal.main_arg5) = m ((c.tc : Thread KernelIdeal.nD KernelIdeal.τ).loc KernelIdeal.main_arg5)
  a6 : m' ((c.tc : Thread ReferenceIdeal.nD ReferenceIdeal.τ).loc ReferenceIdeal.main_arg6) = m ((c.tc : Thread KernelIdeal.nD KernelIdeal.τ).loc KernelIdeal.main_arg6)

variable (m : KMem) (c : Dev KernelIdeal.nD)

/-- The kernel's gradient of row `n` and the reference's. -/
theorem agree (n : Fin 28672) : Row.Agree (KernelIdeal.Result.gradient m c n)
    (ReferenceIdeal.Col.gradient (m ((c.tc : Thread KernelIdeal.nD KernelIdeal.τ).loc KernelIdeal.main_arg0))
      (m ((c.tc : Thread KernelIdeal.nD KernelIdeal.τ).loc KernelIdeal.main_arg1)) n) :=
  Row.agree_grad3 _ _ fun b => Row.byteVal_real _ _

variable {m c} {m' : RMem} (h : Same m m' c)

include h

theorem state : ReferenceIdeal.Col.rNewState
      (m' ((c.tc : Thread ReferenceIdeal.nD ReferenceIdeal.τ).loc ReferenceIdeal.main_arg0))
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg5))
    = KernelIdeal.Value.G10 m c := by
  rw [h.a0, h.a1, h.a2, h.a3, h.a4, h.a5]
  funext i
  obtain ⟨n, rfl⟩ : ∃ n : Fin 28672, i = ix2 0 n :=
    ⟨i 1, KernelIdeal.Col.eq_ix2_of i (congrArg Fin.val (Subsingleton.elim (α := Fin 1) (i 0) 0)) rfl⟩
  refine (ReferenceIdeal.Col.newState_at _ _ _ _ _ _ n).trans ?_
  refine Eq.trans ?_ (KernelIdeal.Result.G10_at m c n).symm
  exact ((agree m c n).momentum_eq _ _).symm

theorem bias : ReferenceIdeal.Value.res_main_v77 m' c = KernelIdeal.Value.G9 m c := by
  rw [ReferenceIdeal.Col.res_bias, h.a0, h.a1, h.a2, h.a3, h.a4, h.a5]
  funext i
  obtain ⟨n, rfl⟩ : ∃ n : Fin 28672, i = ix2 0 n :=
    ⟨i 1, KernelIdeal.Col.eq_ix2_of i (congrArg Fin.val (Subsingleton.elim (α := Fin 1) (i 0) 0)) rfl⟩
  refine (ReferenceIdeal.Col.newBias_at _ _ _ _ _ _ n).trans ?_
  refine Eq.trans ?_ (KernelIdeal.Result.G9_at m c n).symm
  exact congrArg Row.low ((agree m c n).stepped_eq _ _).symm

theorem scale : ReferenceIdeal.Value.res_main_v76 m' c = KernelIdeal.Value.G8 m c := by
  rw [ReferenceIdeal.Col.res_scale, h.a0, h.a1, h.a2, h.a3, h.a4, h.a5]
  funext i
  obtain ⟨n, rfl⟩ : ∃ n : Fin 28672, i = ix2 0 n :=
    ⟨i 1, KernelIdeal.Col.eq_ix2_of i (congrArg Fin.val (Subsingleton.elim (α := Fin 1) (i 0) 0)) rfl⟩
  refine (ReferenceIdeal.Col.newScale_at _ _ _ _ _ _ n).trans ?_
  refine Eq.trans ?_ (KernelIdeal.Result.G8_at m c n).symm
  exact congrArg Row.scale ((agree m c n).stepped_eq _ _).symm

theorem codes : ReferenceIdeal.Value.res_main_v75 m' c = KernelIdeal.Value.G7 m c := by
  rw [ReferenceIdeal.Col.res_codes, h.a0, h.a1, h.a2, h.a3, h.a4, h.a5, h.a6]
  funext i
  obtain ⟨d, n, rfl⟩ : ∃ (d : Fin 224) (n : Fin 28672), i = ix2 d n :=
    ⟨i 0, i 1, KernelIdeal.Col.eq_ix2_of i rfl rfl⟩
  refine (ReferenceIdeal.Col.newCodes_at _ _ _ _ _ _ _ n d).trans ?_
  refine Eq.trans ?_ (KernelIdeal.Result.G7_at m c d n).symm
  exact congrArg (fun x => Row.code x _ d) ((agree m c n).stepped_eq _ _).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference leaves its arguments, and it has no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Col.run m ρ)

/-- Both programs end with the kernel's four arrays: the reference's because `Equal` says they are the same. -/
theorem algebraic : Cert.algebraic_KernelIdeal_ReferenceIdeal := by
  intro m ρ m' ρ' _ hargs
  have same : ∀ c, Cert.Equal.Same m m' c := fun c =>
    have h := hargs c
    ⟨h.1, h.2.1, h.2.2.1, h.2.2.2.1, h.2.2.2.2.1, h.2.2.2.2.2.1, h.2.2.2.2.2.2⟩
  refine ⟨fun c => Cert.KernelIdeal.Value.G7 m c, fun c => Cert.KernelIdeal.Value.G8 m c,
    fun c => Cert.KernelIdeal.Value.G9 m c, fun c => Cert.KernelIdeal.Value.G10 m c,
    Cert.KernelIdeal.Value.run m ρ, ?_⟩
  exact (θ_run Cert.ReferenceIdeal.defs _ _).mono (fun r h c =>
      ⟨(h c).1.trans (Cert.Equal.codes (same c)), (h c).2.1.trans (Cert.Equal.scale (same c)),
        (h c).2.2.1.trans (Cert.Equal.bias (same c)), (h c).2.2.2.1.trans (Cert.Equal.state (same c)), (h c).2.2.2.2⟩)
    (Cert.ReferenceIdeal.Col.run m' ρ')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
